-- ==== Defs.lean ====
def Pre_Sgu (m : (ℓ : Loc Cert.Sgu.nD Cert.Sgu.τ Cert.Sgu.sig) → Buf (Elt Bits) ℓ) : Prop :=
  True

def Pre_SguIdeal (m : (ℓ : Loc Cert.SguIdeal.nD Cert.SguIdeal.τ Cert.SguIdeal.sig) → Buf (Elt Ideal) ℓ) : Prop :=
  True

def Pre_SguRefIdeal (m : (ℓ : Loc Cert.SguRefIdeal.nD Cert.SguRefIdeal.τ Cert.SguRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjRefIdeal (m : (ℓ : Loc Cert.ProjRefIdeal.nD Cert.ProjRefIdeal.τ Cert.ProjRefIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutRefIdeal (m : (ℓ : Loc Cert.OutRefIdeal.nD Cert.OutRefIdeal.τ Cert.OutRefIdeal.sig) → Buf (Elt Ideal) ℓ) : Prop :=
  True

def Pre_Pool (m : (ℓ : Loc Cert.Pool.nD Cert.Pool.τ Cert.Pool.sig) → Buf (Elt Bits) ℓ) : Prop :=
  True

def Pre_PoolIdeal (m : (ℓ : Loc Cert.PoolIdeal.nD Cert.PoolIdeal.τ Cert.PoolIdeal.sig) → Buf (Elt Ideal) ℓ) : Prop :=
  True

def Pre_PoolRefIdeal (m : (ℓ : Loc Cert.PoolRefIdeal.nD Cert.PoolRefIdeal.τ Cert.PoolRefIdeal.sig) → Buf (Elt Ideal) ℓ) : Prop :=
  True

def quiescent_Sgu [hSgu : Cert.Sgu.Facts] : Prop :=
  ∀ (m : (ℓ : Loc Cert.Sgu.nD Cert.Sgu.τ Cert.Sgu.sig) → Buf (Elt Bits) ℓ) (g : Dev Cert.Sgu.nD → PrngReg), Pre_Sgu m →
    θ_run (Cert.Sgu.defs (F := Bits)) (onTc (τ := Cert.Sgu.τ) (Cert.Sgu.main (F := Bits))) ⟨m, fun _ => 0, g⟩ (fun r => (∀ c : Dev Cert.Sgu.nD,
      r.2.mem ((c.tc : Thread Cert.Sgu.nD Cert.Sgu.τ).loc Cert.Sgu.main_arg0) = m ((c.tc : Thread Cert.Sgu.nD Cert.Sgu.τ).loc Cert.Sgu.main_arg0)
      ∧ r.2.mem ((c.tc : Thread Cert.Sgu.nD Cert.Sgu.τ).loc Cert.Sgu.main_arg1) = m ((c.tc : Thread Cert.Sgu.nD Cert.Sgu.τ).loc Cert.Sgu.main_arg1)
      ∧ r.2.mem ((c.tc : Thread Cert.Sgu.nD Cert.Sgu.τ).loc Cert.Sgu.main_arg2) = m ((c.tc : Thread Cert.Sgu.nD Cert.Sgu.τ).loc Cert.Sgu.main_arg2)
      ∧ r.2.mem ((c.tc : Thread Cert.Sgu.nD Cert.Sgu.τ).loc Cert.Sgu.main_arg3) = m ((c.tc : Thread Cert.Sgu.nD Cert.Sgu.τ).loc Cert.Sgu.main_arg3)
      ∧ r.2.mem ((c.tc : Thread Cert.Sgu.nD Cert.Sgu.τ).loc Cert.Sgu.main_arg4) = m ((c.tc : Thread Cert.Sgu.nD Cert.Sgu.τ).loc Cert.Sgu.main_arg4)
      ∧ r.2.mem ((c.tc : Thread Cert.Sgu.nD Cert.Sgu.τ).loc Cert.Sgu.main_arg5) = m ((c.tc : Thread Cert.Sgu.nD Cert.Sgu.τ).loc Cert.Sgu.main_arg5))
      ∧ r.2.sem = fun _ => 0)

def quiescent_SguIdeal [hSguIdeal : Cert.SguIdeal.Facts] : Prop :=
  ∀ (m : (ℓ : Loc Cert.SguIdeal.nD Cert.SguIdeal.τ Cert.SguIdeal.sig) → Buf (Elt Ideal) ℓ) (g : Dev Cert.SguIdeal.nD → PrngReg), Pre_SguIdeal m →
    θ_run (Cert.SguIdeal.defs (F := Ideal)) (onTc (τ := Cert.SguIdeal.τ) (Cert.SguIdeal.main (F := Ideal))) ⟨m, fun _ => 0, g⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0)

def quiescent_SguRefIdeal [hSguRefIdeal : Cert.SguRefIdeal.Facts] : Prop :=
  ∀ (m : (ℓ : Loc Cert.SguRefIdeal.nD Cert.SguRefIdeal.τ Cert.SguRefIdeal.sig) → Buf (Elt Ideal) ℓ) (g : Dev Cert.SguRefIdeal.nD → PrngReg), Pre_SguRefIdeal m →
    θ_run (Cert.SguRefIdeal.defs (F := Ideal)) (onTc (τ := Cert.SguRefIdeal.τ) (Cert.SguRefIdeal.main (F := Ideal))) ⟨m, fun _ => 0, g⟩ (fun r => (∀ c : Dev Cert.SguRefIdeal.nD,
      r.2.mem ((c.tc : Thread Cert.SguRefIdeal.nD Cert.SguRefIdeal.τ).loc Cert.SguRefIdeal.main_arg0) = m ((c.tc : Thread Cert.SguRefIdeal.nD Cert.SguRefIdeal.τ).loc Cert.SguRefIdeal.main_arg0)
      ∧ r.2.mem ((c.tc : Thread Cert.SguRefIdeal.nD Cert.SguRefIdeal.τ).loc Cert.SguRefIdeal.main_arg1) = m ((c.tc : Thread Cert.SguRefIdeal.nD Cert.SguRefIdeal.τ).loc Cert.SguRefIdeal.main_arg1)
      ∧ r.2.mem ((c.tc : Thread Cert.SguRefIdeal.nD Cert.SguRefIdeal.τ).loc Cert.SguRefIdeal.main_arg2) = m ((c.tc : Thread Cert.SguRefIdeal.nD Cert.SguRefIdeal.τ).loc Cert.SguRefIdeal.main_arg2)
      ∧ r.2.mem ((c.tc : Thread Cert.SguRefIdeal.nD Cert.SguRefIdeal.τ).loc Cert.SguRefIdeal.main_arg3) = m ((c.tc : Thread Cert.SguRefIdeal.nD Cert.SguRefIdeal.τ).loc Cert.SguRefIdeal.main_arg3)
      ∧ r.2.mem ((c.tc : Thread Cert.SguRefIdeal.nD Cert.SguRefIdeal.τ).loc Cert.SguRefIdeal.main_arg4) = m ((c.tc : Thread Cert.SguRefIdeal.nD Cert.SguRefIdeal.τ).loc Cert.SguRefIdeal.main_arg4)
      ∧ r.2.mem ((c.tc : Thread Cert.SguRefIdeal.nD Cert.SguRefIdeal.τ).loc Cert.SguRefIdeal.main_arg5) = m ((c.tc : Thread Cert.SguRefIdeal.nD Cert.SguRefIdeal.τ).loc Cert.SguRefIdeal.main_arg5))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ r.2.sem = fun _ => 0)

def quiescent_ProjRefIdeal [hProjRefIdeal : Cert.ProjRefIdeal.Facts] : Prop :=
  ∀ (m : (ℓ : Loc Cert.ProjRefIdeal.nD Cert.ProjRefIdeal.τ Cert.ProjRefIdeal.sig) → Buf (Elt Ideal) ℓ) (g : Dev Cert.ProjRefIdeal.nD → PrngReg), Pre_ProjRefIdeal m →
    θ_run (Cert.ProjRefIdeal.defs (F := Ideal)) (onTc (τ := Cert.ProjRefIdeal.τ) (Cert.ProjRefIdeal.main (F := Ideal))) ⟨m, fun _ => 0, g⟩ (fun r => (∀ c : Dev Cert.ProjRefIdeal.nD,
      r.2.mem ((c.tc : Thread Cert.ProjRefIdeal.nD Cert.ProjRefIdeal.τ).loc Cert.ProjRefIdeal.main_arg0) = m ((c.tc : Thread Cert.ProjRefIdeal.nD Cert.ProjRefIdeal.τ).loc Cert.ProjRefIdeal.main_arg0)
      ∧ r.2.mem ((c.tc : Thread Cert.ProjRefIdeal.nD Cert.ProjRefIdeal.τ).loc Cert.ProjRefIdeal.main_arg1) = m ((c.tc : Thread Cert.ProjRefIdeal.nD Cert.ProjRefIdeal.τ).loc Cert.ProjRefIdeal.main_arg1))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ r.2.sem = fun _ => 0)

def quiescent_OutRefIdeal [hOutRefIdeal : Cert.OutRefIdeal.Facts] : Prop :=
  ∀ (m : (ℓ : Loc Cert.OutRefIdeal.nD Cert.OutRefIdeal.τ Cert.OutRefIdeal.sig) → Buf (Elt Ideal) ℓ) (g : Dev Cert.OutRefIdeal.nD → PrngReg), Pre_OutRefIdeal m →
    θ_run (Cert.OutRefIdeal.defs (F := Ideal)) (onTc (τ := Cert.OutRefIdeal.τ) (Cert.OutRefIdeal.main (F := Ideal))) ⟨m, fun _ => 0, g⟩ (fun r => (∀ c : Dev Cert.OutRefIdeal.nD,
      r.2.mem ((c.tc : Thread Cert.OutRefIdeal.nD Cert.OutRefIdeal.τ).loc Cert.OutRefIdeal.main_arg0) = m ((c.tc : Thread Cert.OutRefIdeal.nD Cert.OutRefIdeal.τ).loc Cert.OutRefIdeal.main_arg0)
      ∧ r.2.mem ((c.tc : Thread Cert.OutRefIdeal.nD Cert.OutRefIdeal.τ).loc Cert.OutRefIdeal.main_arg1) = m ((c.tc : Thread Cert.OutRefIdeal.nD Cert.OutRefIdeal.τ).loc Cert.OutRefIdeal.main_arg1)
      ∧ r.2.mem ((c.tc : Thread Cert.OutRefIdeal.nD Cert.OutRefIdeal.τ).loc Cert.OutRefIdeal.main_arg2) = m ((c.tc : Thread Cert.OutRefIdeal.nD Cert.OutRefIdeal.τ).loc Cert.OutRefIdeal.main_arg2)
      ∧ r.2.mem ((c.tc : Thread Cert.OutRefIdeal.nD Cert.OutRefIdeal.τ).loc Cert.OutRefIdeal.main_arg3) = m ((c.tc : Thread Cert.OutRefIdeal.nD Cert.OutRefIdeal.τ).loc Cert.OutRefIdeal.main_arg3)
      ∧ r.2.mem ((c.tc : Thread Cert.OutRefIdeal.nD Cert.OutRefIdeal.τ).loc Cert.OutRefIdeal.main_arg4) = m ((c.tc : Thread Cert.OutRefIdeal.nD Cert.OutRefIdeal.τ).loc Cert.OutRefIdeal.main_arg4))
      ∧ r.2.sem = fun _ => 0)

def quiescent_Pool [hPool : Cert.Pool.Facts] : Prop :=
  ∀ (m : (ℓ : Loc Cert.Pool.nD Cert.Pool.τ Cert.Pool.sig) → Buf (Elt Bits) ℓ) (g : Dev Cert.Pool.nD → PrngReg), Pre_Pool m →
    θ_run (Cert.Pool.defs (F := Bits)) (onTc (τ := Cert.Pool.τ) (Cert.Pool.main (F := Bits))) ⟨m, fun _ => 0, g⟩ (fun r => (∀ c : Dev Cert.Pool.nD,
      r.2.mem ((c.tc : Thread Cert.Pool.nD Cert.Pool.τ).loc Cert.Pool.main_arg0) = m ((c.tc : Thread Cert.Pool.nD Cert.Pool.τ).loc Cert.Pool.main_arg0)
      ∧ r.2.mem ((c.tc : Thread Cert.Pool.nD Cert.Pool.τ).loc Cert.Pool.main_arg1) = m ((c.tc : Thread Cert.Pool.nD Cert.Pool.τ).loc Cert.Pool.main_arg1)
      ∧ r.2.mem ((c.tc : Thread Cert.Pool.nD Cert.Pool.τ).loc Cert.Pool.main_arg2) = m ((c.tc : Thread Cert.Pool.nD Cert.Pool.τ).loc Cert.Pool.main_arg2))
      ∧ r.2.sem = fun _ => 0)

def quiescent_PoolIdeal [hPoolIdeal : Cert.PoolIdeal.Facts] : Prop :=
  ∀ (m : (ℓ : Loc Cert.PoolIdeal.nD Cert.PoolIdeal.τ Cert.PoolIdeal.sig) → Buf (Elt Ideal) ℓ) (g : Dev Cert.PoolIdeal.nD → PrngReg), Pre_PoolIdeal m →
    θ_run (Cert.PoolIdeal.defs (F := Ideal)) (onTc (τ := Cert.PoolIdeal.τ) (Cert.PoolIdeal.main (F := Ideal))) ⟨m, fun _ => 0, g⟩ (fun r => (∀ c : Dev Cert.PoolIdeal.nD,
      r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
      ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
      ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ r.2.sem = fun _ => 0)

def quiescent_PoolRefIdeal [hPoolRefIdeal : Cert.PoolRefIdeal.Facts] : Prop :=
  ∀ (m : (ℓ : Loc Cert.PoolRefIdeal.nD Cert.PoolRefIdeal.τ Cert.PoolRefIdeal.sig) → Buf (Elt Ideal) ℓ) (g : Dev Cert.PoolRefIdeal.nD → PrngReg), Pre_PoolRefIdeal m →
    θ_run (Cert.PoolRefIdeal.defs (F := Ideal)) (onTc (τ := Cert.PoolRefIdeal.τ) (Cert.PoolRefIdeal.main (F := Ideal))) ⟨m, fun _ => 0, g⟩ (fun r => (∀ c : Dev Cert.PoolRefIdeal.nD,
      r.2.mem ((c.tc : Thread Cert.PoolRefIdeal.nD Cert.PoolRefIdeal.τ).loc Cert.PoolRefIdeal.main_arg0) = m ((c.tc : Thread Cert.PoolRefIdeal.nD Cert.PoolRefIdeal.τ).loc Cert.PoolRefIdeal.main_arg0)
      ∧ r.2.mem ((c.tc : Thread Cert.PoolRefIdeal.nD Cert.PoolRefIdeal.τ).loc Cert.PoolRefIdeal.main_arg1) = m ((c.tc : Thread Cert.PoolRefIdeal.nD Cert.PoolRefIdeal.τ).loc Cert.PoolRefIdeal.main_arg1)
      ∧ r.2.mem ((c.tc : Thread Cert.PoolRefIdeal.nD Cert.PoolRefIdeal.τ).loc Cert.PoolRefIdeal.main_arg2) = m ((c.tc : Thread Cert.PoolRefIdeal.nD Cert.PoolRefIdeal.τ).loc Cert.PoolRefIdeal.main_arg2))
      ∧ r.2.sem = fun _ => 0)

def preserves_Sgu_SguIdeal : Prop :=
  True

def algebraic_SguIdeal_SguRefIdeal [hSguIdeal : Cert.SguIdeal.Facts] [hSguRefIdeal : Cert.SguRefIdeal.Facts] : Prop :=
  ∀ (m : (ℓ : Loc Cert.SguIdeal.nD Cert.SguIdeal.τ Cert.SguIdeal.sig) → Buf (Elt Ideal) ℓ) (g : Dev Cert.SguIdeal.nD → PrngReg)
    (m' : (ℓ : Loc Cert.SguRefIdeal.nD Cert.SguRefIdeal.τ Cert.SguRefIdeal.sig) → Buf (Elt Ideal) ℓ) (g' : Dev Cert.SguRefIdeal.nD → PrngReg), Pre_SguIdeal m →
    (∀ c : Dev Cert.SguIdeal.nD,
      m' ((c.tc : Thread Cert.SguRefIdeal.nD Cert.SguRefIdeal.τ).loc Cert.SguRefIdeal.main_arg0) = m ((c.tc : Thread Cert.SguIdeal.nD Cert.SguIdeal.τ).loc Cert.SguIdeal.main_arg0)
      ∧ m' ((c.tc : Thread Cert.SguRefIdeal.nD Cert.SguRefIdeal.τ).loc Cert.SguRefIdeal.main_arg1) = m ((c.tc : Thread Cert.SguIdeal.nD Cert.SguIdeal.τ).loc Cert.SguIdeal.main_arg1)
      ∧ m' ((c.tc : Thread Cert.SguRefIdeal.nD Cert.SguRefIdeal.τ).loc Cert.SguRefIdeal.main_arg2) = m ((c.tc : Thread Cert.SguIdeal.nD Cert.SguIdeal.τ).loc Cert.SguIdeal.main_arg2)
      ∧ m' ((c.tc : Thread Cert.SguRefIdeal.nD Cert.SguRefIdeal.τ).loc Cert.SguRefIdeal.main_arg3) = m ((c.tc : Thread Cert.SguIdeal.nD Cert.SguIdeal.τ).loc Cert.SguIdeal.main_arg3)
      ∧ m' ((c.tc : Thread Cert.SguRefIdeal.nD Cert.SguRefIdeal.τ).loc Cert.SguRefIdeal.main_arg4) = m ((c.tc : Thread Cert.SguIdeal.nD Cert.SguIdeal.τ).loc Cert.SguIdeal.main_arg4)
      ∧ m' ((c.tc : Thread Cert.SguRefIdeal.nD Cert.SguRefIdeal.τ).loc Cert.SguRefIdeal.main_arg5) = m ((c.tc : Thread Cert.SguIdeal.nD Cert.SguIdeal.τ).loc Cert.SguIdeal.main_arg5)) →
    ∃ (v0 : (c : Dev Cert.SguIdeal.nD) → Buf (Elt Ideal) ((c.tc : Thread Cert.SguIdeal.nD Cert.SguIdeal.τ).loc Cert.SguIdeal.main_v18)),
      θ_run (Cert.SguIdeal.defs (F := Ideal)) (onTc (τ := Cert.SguIdeal.τ) (Cert.SguIdeal.main (F := Ideal))) ⟨m, fun _ => 0, g⟩ (fun r => ∀ c : Dev Cert.SguIdeal.nD,
          r.2.mem ((c.tc : Thread Cert.SguIdeal.nD Cert.SguIdeal.τ).loc Cert.SguIdeal.main_v18) = v0 c
          ∧ r.2.mem ((c.tc : Thread Cert.SguIdeal.nD Cert.SguIdeal.τ).loc Cert.SguIdeal.main_arg0) = m ((c.tc : Thread Cert.SguIdeal.nD Cert.SguIdeal.τ).loc Cert.SguIdeal.main_arg0)
          ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
          ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
          ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
          ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
          ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ θ_run (Cert.SguRefIdeal.defs (F := Ideal)) (onTc (τ := Cert.SguRefIdeal.τ) (Cert.SguRefIdeal.main (F := Ideal))) ⟨m', fun _ => 0, g'⟩ (fun r => ∀ c : Dev Cert.SguRefIdeal.nD,
          r.2.mem ((c.tc : Thread Cert.SguRefIdeal.nD Cert.SguRefIdeal.τ).loc Cert.SguRefIdeal.main_v75) = v0 c
          ∧ r.2.mem ((c.tc : Thread Cert.SguRefIdeal.nD Cert.SguRefIdeal.τ).loc Cert.SguRefIdeal.main_arg0) = m' ((c.tc : Thread Cert.SguRefIdeal.nD Cert.SguRefIdeal.τ).loc Cert.SguRefIdeal.main_arg0)
          ∧ r.2.mem ((c.tc : Thread Cert.SguRefIdeal.nD Cert.SguRefIdeal.τ).loc Cert.SguRefIdeal.main_arg1) = m' ((c.tc : Thread Cert.SguRefIdeal.nD Cert.SguRefIdeal.τ).loc Cert.SguRefIdeal.main_arg1)
          ∧ r.2.mem ((c.tc : Thread Cert.SguRefIdeal.nD Cert.SguRefIdeal.τ).loc Cert.SguRefIdeal.main_arg2) = m' ((c.tc : Thread Cert.SguRefIdeal.nD Cert.SguRefIdeal.τ).loc Cert.SguRefIdeal.main_arg2)
          ∧ r.2.mem ((c.tc : Thread Cert.SguRefIdeal.nD Cert.SguRefIdeal.τ).loc Cert.SguRefIdeal.main_arg3) = m' ((c.tc : Thread Cert.SguRefIdeal.nD Cert.SguRefIdeal.τ).loc Cert.SguRefIdeal.main_arg3)
          ∧ r.2.mem ((c.tc : Thread Cert.SguRefIdeal.nD Cert.SguRefIdeal.τ).loc Cert.SguRefIdeal.main_arg4) = m' ((c.tc : Thread Cert.SguRefIdeal.nD Cert.SguRefIdeal.τ).loc Cert.SguRefIdeal.main_arg4)
          ∧ r.2.mem ((c.tc : Thread Cert.SguRefIdeal.nD Cert.SguRefIdeal.τ).loc Cert.SguRefIdeal.main_arg5) = m' ((c.tc : Thread Cert.SguRefIdeal.nD Cert.SguRefIdeal.τ).loc Cert.SguRefIdeal.main_arg5))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)) →
    ∃ (v0 : (c : Dev Cert.MergeIdeal.nD) → Buf (Elt Ideal) ((c.tc : Thread Cert.MergeIdeal.nD Cert.MergeIdeal.τ).loc Cert.MergeIdeal.main_v1)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v1) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v28) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4))

def preserves_Proj_ProjIdeal : Prop :=
  True

def algebraic_ProjIdeal_ProjRefIdeal [hProjIdeal : Cert.ProjIdeal.Facts] [hProjRefIdeal : Cert.ProjRefIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjRefIdeal.nD Cert.ProjRefIdeal.τ Cert.ProjRefIdeal.sig) → Buf (Elt Ideal) ℓ) (g' : Dev Cert.ProjRefIdeal.nD → PrngReg), Pre_ProjIdeal m →
    (∀ c : Dev Cert.ProjIdeal.nD,
      m' ((c.tc : Thread Cert.ProjRefIdeal.nD Cert.ProjRefIdeal.τ).loc Cert.ProjRefIdeal.main_arg0) = m ((c.tc : Thread Cert.ProjIdeal.nD Cert.ProjIdeal.τ).loc Cert.ProjIdeal.main_arg0)
      ∧ m' ((c.tc : Thread Cert.ProjRefIdeal.nD Cert.ProjRefIdeal.τ).loc Cert.ProjRefIdeal.main_arg1) = m ((c.tc : Thread Cert.ProjIdeal.nD Cert.ProjIdeal.τ).loc Cert.ProjIdeal.main_arg1)) →
    ∃ (v0 : (c : Dev Cert.ProjIdeal.nD) → Buf (Elt Ideal) ((c.tc : Thread Cert.ProjIdeal.nD Cert.ProjIdeal.τ).loc Cert.ProjIdeal.main_v15)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v15) = v0 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1))
      ∧ θ_run (Cert.ProjRefIdeal.defs (F := Ideal)) (onTc (τ := Cert.ProjRefIdeal.τ) (Cert.ProjRefIdeal.main (F := Ideal))) ⟨m', fun _ => 0, g'⟩ (fun r => ∀ c : Dev Cert.ProjRefIdeal.nD,
          r.2.mem ((c.tc : Thread Cert.ProjRefIdeal.nD Cert.ProjRefIdeal.τ).loc Cert.ProjRefIdeal.main_v22) = v0 c
          ∧ r.2.mem ((c.tc : Thread Cert.ProjRefIdeal.nD Cert.ProjRefIdeal.τ).loc Cert.ProjRefIdeal.main_arg0) = m' ((c.tc : Thread Cert.ProjRefIdeal.nD Cert.ProjRefIdeal.τ).loc Cert.ProjRefIdeal.main_arg0)
          ∧ r.2.mem ((c.tc : Thread Cert.ProjRefIdeal.nD Cert.ProjRefIdeal.τ).loc Cert.ProjRefIdeal.main_arg1) = m' ((c.tc : Thread Cert.ProjRefIdeal.nD Cert.ProjRefIdeal.τ).loc Cert.ProjRefIdeal.main_arg1))

def preserves_Out_OutIdeal : Prop :=
  True

def algebraic_OutIdeal_OutRefIdeal [hOutIdeal : Cert.OutIdeal.Facts] [hOutRefIdeal : Cert.OutRefIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutRefIdeal.nD Cert.OutRefIdeal.τ Cert.OutRefIdeal.sig) → Buf (Elt Ideal) ℓ) (g' : Dev Cert.OutRefIdeal.nD → PrngReg), Pre_OutIdeal m →
    (∀ c : Dev Cert.OutIdeal.nD,
      m' ((c.tc : Thread Cert.OutRefIdeal.nD Cert.OutRefIdeal.τ).loc Cert.OutRefIdeal.main_arg0) = m ((c.tc : Thread Cert.OutIdeal.nD Cert.OutIdeal.τ).loc Cert.OutIdeal.main_arg0)
      ∧ m' ((c.tc : Thread Cert.OutRefIdeal.nD Cert.OutRefIdeal.τ).loc Cert.OutRefIdeal.main_arg1) = m ((c.tc : Thread Cert.OutIdeal.nD Cert.OutIdeal.τ).loc Cert.OutIdeal.main_arg1)
      ∧ m' ((c.tc : Thread Cert.OutRefIdeal.nD Cert.OutRefIdeal.τ).loc Cert.OutRefIdeal.main_arg2) = m ((c.tc : Thread Cert.OutIdeal.nD Cert.OutIdeal.τ).loc Cert.OutIdeal.main_arg2)
      ∧ m' ((c.tc : Thread Cert.OutRefIdeal.nD Cert.OutRefIdeal.τ).loc Cert.OutRefIdeal.main_arg3) = m ((c.tc : Thread Cert.OutIdeal.nD Cert.OutIdeal.τ).loc Cert.OutIdeal.main_arg3)
      ∧ m' ((c.tc : Thread Cert.OutRefIdeal.nD Cert.OutRefIdeal.τ).loc Cert.OutRefIdeal.main_arg4) = m ((c.tc : Thread Cert.OutIdeal.nD Cert.OutIdeal.τ).loc Cert.OutIdeal.main_arg4)) →
    ∃ (v0 : (c : Dev Cert.OutIdeal.nD) → Buf (Elt Ideal) ((c.tc : Thread Cert.OutIdeal.nD Cert.OutIdeal.τ).loc Cert.OutIdeal.main_v4)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v4) = v0 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4))
      ∧ θ_run (Cert.OutRefIdeal.defs (F := Ideal)) (onTc (τ := Cert.OutRefIdeal.τ) (Cert.OutRefIdeal.main (F := Ideal))) ⟨m', fun _ => 0, g'⟩ (fun r => ∀ c : Dev Cert.OutRefIdeal.nD,
          r.2.mem ((c.tc : Thread Cert.OutRefIdeal.nD Cert.OutRefIdeal.τ).loc Cert.OutRefIdeal.main_v23) = v0 c
          ∧ r.2.mem ((c.tc : Thread Cert.OutRefIdeal.nD Cert.OutRefIdeal.τ).loc Cert.OutRefIdeal.main_arg0) = m' ((c.tc : Thread Cert.OutRefIdeal.nD Cert.OutRefIdeal.τ).loc Cert.OutRefIdeal.main_arg0)
          ∧ r.2.mem ((c.tc : Thread Cert.OutRefIdeal.nD Cert.OutRefIdeal.τ).loc Cert.OutRefIdeal.main_arg1) = m' ((c.tc : Thread Cert.OutRefIdeal.nD Cert.OutRefIdeal.τ).loc Cert.OutRefIdeal.main_arg1)
          ∧ r.2.mem ((c.tc : Thread Cert.OutRefIdeal.nD Cert.OutRefIdeal.τ).loc Cert.OutRefIdeal.main_arg2) = m' ((c.tc : Thread Cert.OutRefIdeal.nD Cert.OutRefIdeal.τ).loc Cert.OutRefIdeal.main_arg2)
          ∧ r.2.mem ((c.tc : Thread Cert.OutRefIdeal.nD Cert.OutRefIdeal.τ).loc Cert.OutRefIdeal.main_arg3) = m' ((c.tc : Thread Cert.OutRefIdeal.nD Cert.OutRefIdeal.τ).loc Cert.OutRefIdeal.main_arg3)
          ∧ r.2.mem ((c.tc : Thread Cert.OutRefIdeal.nD Cert.OutRefIdeal.τ).loc Cert.OutRefIdeal.main_arg4) = m' ((c.tc : Thread Cert.OutRefIdeal.nD Cert.OutRefIdeal.τ).loc Cert.OutRefIdeal.main_arg4))

def preserves_Pool_PoolIdeal : Prop :=
  True

def algebraic_PoolIdeal_PoolRefIdeal [hPoolIdeal : Cert.PoolIdeal.Facts] [hPoolRefIdeal : Cert.PoolRefIdeal.Facts] : Prop :=
  ∀ (m : (ℓ : Loc Cert.PoolIdeal.nD Cert.PoolIdeal.τ Cert.PoolIdeal.sig) → Buf (Elt Ideal) ℓ) (g : Dev Cert.PoolIdeal.nD → PrngReg)
    (m' : (ℓ : Loc Cert.PoolRefIdeal.nD Cert.PoolRefIdeal.τ Cert.PoolRefIdeal.sig) → Buf (Elt Ideal) ℓ) (g' : Dev Cert.PoolRefIdeal.nD → PrngReg), Pre_PoolIdeal m →
    (∀ c : Dev Cert.PoolIdeal.nD,
      m' ((c.tc : Thread Cert.PoolRefIdeal.nD Cert.PoolRefIdeal.τ).loc Cert.PoolRefIdeal.main_arg0) = m ((c.tc : Thread Cert.PoolIdeal.nD Cert.PoolIdeal.τ).loc Cert.PoolIdeal.main_arg0)
      ∧ m' ((c.tc : Thread Cert.PoolRefIdeal.nD Cert.PoolRefIdeal.τ).loc Cert.PoolRefIdeal.main_arg1) = m ((c.tc : Thread Cert.PoolIdeal.nD Cert.PoolIdeal.τ).loc Cert.PoolIdeal.main_arg1)
      ∧ m' ((c.tc : Thread Cert.PoolRefIdeal.nD Cert.PoolRefIdeal.τ).loc Cert.PoolRefIdeal.main_arg2) = m ((c.tc : Thread Cert.PoolIdeal.nD Cert.PoolIdeal.τ).loc Cert.PoolIdeal.main_arg2)) →
    ∃ (v0 : (c : Dev Cert.PoolIdeal.nD) → Buf (Elt Ideal) ((c.tc : Thread Cert.PoolIdeal.nD Cert.PoolIdeal.τ).loc Cert.PoolIdeal.main_v1)),
      θ_run (Cert.PoolIdeal.defs (F := Ideal)) (onTc (τ := Cert.PoolIdeal.τ) (Cert.PoolIdeal.main (F := Ideal))) ⟨m, fun _ => 0, g⟩ (fun r => ∀ c : Dev Cert.PoolIdeal.nD,
          r.2.mem ((c.tc : Thread Cert.PoolIdeal.nD Cert.PoolIdeal.τ).loc Cert.PoolIdeal.main_v1) = v0 c
          ∧ r.2.mem ((c.tc : Thread Cert.PoolIdeal.nD Cert.PoolIdeal.τ).loc Cert.PoolIdeal.main_arg0) = m ((c.tc : Thread Cert.PoolIdeal.nD Cert.PoolIdeal.τ).loc Cert.PoolIdeal.main_arg0)
          ∧ r.2.mem ((c.tc : Thread Cert.PoolIdeal.nD Cert.PoolIdeal.τ).loc Cert.PoolIdeal.main_arg1) = m ((c.tc : Thread Cert.PoolIdeal.nD Cert.PoolIdeal.τ).loc Cert.PoolIdeal.main_arg1)
          ∧ r.2.mem ((c.tc : Thread Cert.PoolIdeal.nD Cert.PoolIdeal.τ).loc Cert.PoolIdeal.main_arg2) = m ((c.tc : Thread Cert.PoolIdeal.nD Cert.PoolIdeal.τ).loc Cert.PoolIdeal.main_arg2))
      ∧ θ_run (Cert.PoolRefIdeal.defs (F := Ideal)) (onTc (τ := Cert.PoolRefIdeal.τ) (Cert.PoolRefIdeal.main (F := Ideal))) ⟨m', fun _ => 0, g'⟩ (fun r => ∀ c : Dev Cert.PoolRefIdeal.nD,
          r.2.mem ((c.tc : Thread Cert.PoolRefIdeal.nD Cert.PoolRefIdeal.τ).loc Cert.PoolRefIdeal.main_v93) = v0 c
          ∧ r.2.mem ((c.tc : Thread Cert.PoolRefIdeal.nD Cert.PoolRefIdeal.τ).loc Cert.PoolRefIdeal.main_arg0) = m' ((c.tc : Thread Cert.PoolRefIdeal.nD Cert.PoolRefIdeal.τ).loc Cert.PoolRefIdeal.main_arg0)
          ∧ r.2.mem ((c.tc : Thread Cert.PoolRefIdeal.nD Cert.PoolRefIdeal.τ).loc Cert.PoolRefIdeal.main_arg1) = m' ((c.tc : Thread Cert.PoolRefIdeal.nD Cert.PoolRefIdeal.τ).loc Cert.PoolRefIdeal.main_arg1)
          ∧ r.2.mem ((c.tc : Thread Cert.PoolRefIdeal.nD Cert.PoolRefIdeal.τ).loc Cert.PoolRefIdeal.main_arg2) = m' ((c.tc : Thread Cert.PoolRefIdeal.nD Cert.PoolRefIdeal.τ).loc Cert.PoolRefIdeal.main_arg2))

def Claim : Prop :=
  ∃ (hSgu : Cert.Sgu.Facts) (hSguIdeal : Cert.SguIdeal.Facts) (hSguRefIdeal : Cert.SguRefIdeal.Facts) (hMerge : Cert.Merge.Facts) (hMergeIdeal : Cert.MergeIdeal.Facts) (hMergeRefIdeal : Cert.MergeRefIdeal.Facts) (hProj : Cert.Proj.Facts) (hProjIdeal : Cert.ProjIdeal.Facts) (hProjRefIdeal : Cert.ProjRefIdeal.Facts) (hOut : Cert.Out.Facts) (hOutIdeal : Cert.OutIdeal.Facts) (hOutRefIdeal : Cert.OutRefIdeal.Facts) (hPool : Cert.Pool.Facts) (hPoolIdeal : Cert.PoolIdeal.Facts) (hPoolRefIdeal : Cert.PoolRefIdeal.Facts),
    quiescent_Sgu (hSgu := hSgu)
    ∧ quiescent_SguIdeal (hSguIdeal := hSguIdeal)
    ∧ quiescent_SguRefIdeal (hSguRefIdeal := hSguRefIdeal)
    ∧ quiescent_Merge (hMerge := hMerge)
    ∧ quiescent_MergeIdeal (hMergeIdeal := hMergeIdeal)
    ∧ quiescent_MergeRefIdeal (hMergeRefIdeal := hMergeRefIdeal)
    ∧ quiescent_Proj (hProj := hProj)
    ∧ quiescent_ProjIdeal (hProjIdeal := hProjIdeal)
    ∧ quiescent_ProjRefIdeal (hProjRefIdeal := hProjRefIdeal)
    ∧ quiescent_Out (hOut := hOut)
    ∧ quiescent_OutIdeal (hOutIdeal := hOutIdeal)
    ∧ quiescent_OutRefIdeal (hOutRefIdeal := hOutRefIdeal)
    ∧ quiescent_Pool (hPool := hPool)
    ∧ quiescent_PoolIdeal (hPoolIdeal := hPoolIdeal)
    ∧ quiescent_PoolRefIdeal (hPoolRefIdeal := hPoolRefIdeal)
    ∧ preserves_Sgu_SguIdeal
    ∧ algebraic_SguIdeal_SguRefIdeal (hSguIdeal := hSguIdeal) (hSguRefIdeal := hSguRefIdeal)
    ∧ preserves_Merge_MergeIdeal
    ∧ algebraic_MergeIdeal_MergeRefIdeal (hMergeIdeal := hMergeIdeal) (hMergeRefIdeal := hMergeRefIdeal)
    ∧ preserves_Proj_ProjIdeal
    ∧ algebraic_ProjIdeal_ProjRefIdeal (hProjIdeal := hProjIdeal) (hProjRefIdeal := hProjRefIdeal)
    ∧ preserves_Out_OutIdeal
    ∧ algebraic_OutIdeal_OutRefIdeal (hOutIdeal := hOutIdeal) (hOutRefIdeal := hOutRefIdeal)
    ∧ preserves_Pool_PoolIdeal
    ∧ algebraic_PoolIdeal_PoolRefIdeal (hPoolIdeal := hPoolIdeal) (hPoolRefIdeal := hPoolRefIdeal)
-- ==== Sgu.lean ====
abbrev S16384x2048 : Shape := ⟨2, ![16384, 2048]⟩
abbrev S2x2048x23600 : Shape := ⟨3, ![2, 2048, 23600]⟩
abbrev S2048 : Shape := ⟨1, ![2048]⟩
abbrev S8x128x128 : Shape := ⟨3, ![8, 128, 128]⟩
abbrev S8x128 : Shape := ⟨2, ![8, 128]⟩
abbrev S2x23600x2048 : Shape := ⟨3, ![2, 23600, 2048]⟩
abbrev S2x48x2048 : Shape := ⟨3, ![2, 48, 2048]⟩
abbrev S2x3x4x4x2048 : Shape := ⟨5, ![2, 3, 4, 4, 2048]⟩
abbrev S2x4x3x4x2048 : Shape := ⟨5, ![2, 4, 3, 4, 2048]⟩
abbrev S2x4x12x2048 : Shape := ⟨4, ![2, 4, 12, 2048]⟩
abbrev S_ : Shape := ⟨0, ![]⟩
abbrev S2x4x128x2048 : Shape := ⟨4, ![2, 4, 128, 2048]⟩
abbrev S2x512x2048 : Shape := ⟨3, ![2, 512, 2048]⟩
abbrev S2x2048x2048 : Shape := ⟨3, ![2, 2048, 2048]⟩
abbrev S2x12288x2048 : Shape := ⟨3, ![2, 12288, 2048]⟩
abbrev S2x3072x2048 : Shape := ⟨3, ![2, 3072, 2048]⟩
abbrev S2x6144x2048 : Shape := ⟨3, ![2, 6144, 2048]⟩
abbrev S2x24064x2048 : Shape := ⟨3, ![2, 24064, 2048]⟩
abbrev S1x2048 : Shape := ⟨2, ![1, 2048]⟩
abbrev S128x8 : Shape := ⟨2, ![128, 8]⟩
abbrev S1024x2048 : Shape := ⟨2, ![1024, 2048]⟩
abbrev S1x512x2048 : Shape := ⟨3, ![1, 512, 2048]⟩
abbrev S4x1024x512 : Shape := ⟨3, ![4, 1024, 512]⟩
abbrev S512x2048 : Shape := ⟨2, ![512, 2048]⟩
abbrev S1024x512 : Shape := ⟨2, ![1024, 512]⟩
abbrev S1x1024x512 : Shape := ⟨3, ![1, 1024, 512]⟩
abbrev S1024 : Shape := ⟨1, ![1024]⟩
abbrev S1024x1 : Shape := ⟨2, ![1024, 1]⟩
abbrev S128x128 : Shape := ⟨2, ![128, 128]⟩
abbrev S1x128x128 : Shape := ⟨3, ![1, 128, 128]⟩
abbrev S1x128x256 : Shape := ⟨3, ![1, 128, 256]⟩
abbrev S128x256 : Shape := ⟨2, ![128, 256]⟩
abbrev S128x1 : Shape := ⟨2, ![128, 1]⟩
abbrev S1x256 : Shape := ⟨2, ![1, 256]⟩

abbrev nBuf : Space → Nat
  | .hbm => 28
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S2x2048x23600, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S2x23600x2048, .f32⟩
  | .hbm, ⟨7, _⟩ => ⟨S2x48x2048, .f32⟩
  | .hbm, ⟨8, _⟩ => ⟨S2x3x4x4x2048, .f32⟩
  | .hbm, ⟨9, _⟩ => ⟨S2x4x3x4x2048, .f32⟩
  | .hbm, ⟨10, _⟩ => ⟨S2x4x12x2048, .f32⟩
  | .hbm, ⟨11, _⟩ => ⟨S_, .i32⟩
  | .hbm, ⟨12, _⟩ => ⟨S_, .f32⟩
  | .hbm, ⟨13, _⟩ => ⟨S2x4x128x2048, .f32⟩
  | .hbm, ⟨14, _⟩ => ⟨S2x512x2048, .f32⟩
  | .hbm, ⟨15, _⟩ => ⟨S2x2048x2048, .f32⟩
  | .hbm, ⟨16, _⟩ => ⟨S_, .f32⟩
  | .hbm, ⟨17, _⟩ => ⟨S2x2048x2048, .f32⟩
  | .hbm, ⟨18, _⟩ => ⟨S2x2048x2048, .f32⟩
  | .hbm, ⟨19, _⟩ => ⟨S2x12288x2048, .f32⟩
  | .hbm, ⟨20, _⟩ => ⟨S2x3072x2048, .f32⟩
  | .hbm, ⟨21, _⟩ => ⟨S2x6144x2048, .f32⟩
  | .hbm, ⟨22, _⟩ => ⟨S2x24064x2048, .f32⟩
  | .hbm, ⟨23, _⟩ => ⟨S2x24064x2048, .bf16⟩
  | .hbm, ⟨24, _⟩ => ⟨S1x2048, .f32⟩
  | .hbm, ⟨25, _⟩ => ⟨S1x2048, .f32⟩
  | .hbm, ⟨26, _⟩ => ⟨S128x8, .f32⟩
  | .hbm, ⟨27, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1x512x2048, .bf16⟩
  | .local _ .vmem, ⟨5, _⟩ => ⟨S1x512x2048, .bf16⟩
  | .local _ .vmem, ⟨6, _⟩ => ⟨S1x512x2048, .bf16⟩
  | .local _ .vmem, ⟨7, _⟩ => ⟨S1x512x2048, .bf16⟩
  | .local _ .vmem, ⟨8, _⟩ => ⟨S1x2048, .f32⟩
  | .local _ .vmem, ⟨9, _⟩ => ⟨S1x2048, .f32⟩
  | .local _ .vmem, ⟨10, _⟩ => ⟨S8x128x128, .f32⟩
  | .local _ .vmem, ⟨11, _⟩ => ⟨S128x8, .f32⟩
  | .local _ .vmem, ⟨12, _⟩ => ⟨S1024x2048, .bf16⟩
  | .local _ .vmem, ⟨13, _⟩ => ⟨S1024x2048, .bf16⟩
  | .local _ .vmem, ⟨14, _⟩ => ⟨S4x1024x512, .f32⟩
  | .local _ .vmem, ⟨15, _⟩ => ⟨S4x1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_cst : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨2, ![16, 4], ![false, false]⟩

def k0_off1 (i : grid0.Coords) : Fin 3 → Nat :=
  let arg1 : BitVec 32 := BitVec.ofNat 32 (i 1).val
  let v17 : Index := Scalar.indexCast arg1
  let c0_8 : Index := 0#32
  let c0_9 : Index := 0#32
  ![v17.toNat, 0, 0]
def k0_cond1 (i : grid0.Coords) : BitVec 1 :=
  let arg1 : BitVec 32 := BitVec.ofNat 32 (i 1).val
  let c3_i32 : BitVec 32 := 3#32
  let v48 : BitVec 1 := Scalar.cmpi .eq arg1 c3_i32
  let v49 : BitVec 32 := Scalar.extui v48
  let c0_i32 : BitVec 32 := 0#32
  let v50 : BitVec 1 := Scalar.cmpi .ne v49 c0_i32
  v50

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c35_i32 : BitVec 32 := 35#32
  let v0 : BitVec 32 := Scalar.addi c35_i32 arg1
  let c0_i32 : BitVec 32 := 0#32
  let c0_i32_0 : BitVec 32 := 0#32
  let c0_i32_1 : BitVec 32 := 0#32
  ![c0_i32.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c39_i32 : BitVec 32 := 39#32
  let v0 : BitVec 32 := Scalar.addi c39_i32 arg1
  let c0_i32 : BitVec 32 := 0#32
  let c0_i32_0 : BitVec 32 := 0#32
  let c0_i32_1 : BitVec 32 := 0#32
  ![c0_i32.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c43_i32 : BitVec 32 := 43#32
  let v0 : BitVec 32 := Scalar.addi c43_i32 arg1
  let c0_i32 : BitVec 32 := 0#32
  let c0_i32_0 : BitVec 32 := 0#32
  let c0_i32_1 : BitVec 32 := 0#32
  ![c0_i32.toNat, v0.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x512x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S8x128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S128x8 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1024x2048 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== SguRefIdeal.lean ====
abbrev S16384x2048 : Shape := ⟨2, ![16384, 2048]⟩
abbrev S2x2048x23600 : Shape := ⟨3, ![2, 2048, 23600]⟩
abbrev S2048 : Shape := ⟨1, ![2048]⟩
abbrev S8x128x128 : Shape := ⟨3, ![8, 128, 128]⟩
abbrev S8x128 : Shape := ⟨2, ![8, 128]⟩
abbrev S8x2048x2048 : Shape := ⟨3, ![8, 2048, 2048]⟩
abbrev S1x2048x23600 : Shape := ⟨3, ![1, 2048, 23600]⟩
abbrev S2048x23600 : Shape := ⟨2, ![2048, 23600]⟩
abbrev S8x2048x23600 : Shape := ⟨3, ![8, 2048, 23600]⟩
abbrev S_ : Shape := ⟨0, ![]⟩
abbrev S8x2048 : Shape := ⟨2, ![8, 2048]⟩
abbrev S8x2048x1 : Shape := ⟨3, ![8, 2048, 1]⟩
abbrev S1x1x2048 : Shape := ⟨3, ![1, 1, 2048]⟩
abbrev S8x16x128x8x256 : Shape := ⟨5, ![8, 16, 128, 8, 256]⟩
abbrev S128x128 : Shape := ⟨2, ![128, 128]⟩
abbrev S1x128x128 : Shape := ⟨3, ![1, 128, 128]⟩
abbrev S8x8x16x256x128 : Shape := ⟨5, ![8, 8, 16, 256, 128]⟩
abbrev S128x8 : Shape := ⟨2, ![128, 8]⟩
abbrev S128x8x1 : Shape := ⟨3, ![128, 8, 1]⟩
abbrev S1x1x128x8x1 : Shape := ⟨5, ![1, 1, 128, 8, 1]⟩

abbrev nBuf : Space → Nat
  | .hbm => 116
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x23600, .f32⟩
  | .hbm, ⟨2, _⟩ => ⟨S2048, .f32⟩
  | .hbm, ⟨3, _⟩ => ⟨S2048, .f32⟩
  | .hbm, ⟨4, _⟩ => ⟨S8x128x128, .f32⟩
  | .hbm, ⟨5, _⟩ => ⟨S8x128, .f32⟩
  | .hbm, ⟨6, _⟩ => ⟨S16384x2048, .f32⟩
  | .hbm, ⟨7, _⟩ => ⟨S8x2048x2048, .f32⟩
  | .hbm, ⟨8, _⟩ => ⟨S1x2048x23600, .f32⟩
  | .hbm, ⟨9, _⟩ => ⟨S2048x23600, .f32⟩
  | .hbm, ⟨10, _⟩ => ⟨S8x2048x23600, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048x2048, .f32⟩
  | .hbm, ⟨18, _⟩ => ⟨S8x2048x2048, .f32⟩
  | .hbm, ⟨19, _⟩ => ⟨S8x2048x2048, .f32⟩
  | .hbm, ⟨20, _⟩ => ⟨S_, .f32⟩
  | .hbm, ⟨21, _⟩ => ⟨S8x2048x2048, .f32⟩
  | .hbm, ⟨22, _⟩ => ⟨S8x2048x2048, .f32⟩
  | .hbm, ⟨23, _⟩ => ⟨S8x2048x2048, .f32⟩
  | .hbm, ⟨24, _⟩ => ⟨S_, .f32⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048x2048, .f32⟩
  | .hbm, ⟨29, _⟩ => ⟨S8x2048x2048, .f32⟩
  | .hbm, ⟨30, _⟩ => ⟨S8x2048x2048, .f32⟩
  | .hbm, ⟨31, _⟩ => ⟨S8x2048x2048, .f32⟩
  | .hbm, ⟨32, _⟩ => ⟨S8x2048x2048, .f32⟩
  | .hbm, ⟨33, _⟩ => ⟨S_, .f32⟩
  | .hbm, ⟨34, _⟩ => ⟨S8x2048x2048, .f32⟩
  | .hbm, ⟨35, _⟩ => ⟨S8x2048x2048, .f32⟩
  | .hbm, ⟨36, _⟩ => ⟨S8x2048x2048, .f32⟩
  | .hbm, ⟨37, _⟩ => ⟨S_, .f32⟩
  | .hbm, ⟨38, _⟩ => ⟨S8x2048x2048, .f32⟩
  | .hbm, ⟨39, _⟩ => ⟨S8x2048x2048, .f32⟩
  | .hbm, ⟨40, _⟩ => ⟨S8x2048x2048, .f32⟩
  | .hbm, ⟨41, _⟩ => ⟨S_, .f32⟩
  | .hbm, ⟨42, _⟩ => ⟨S8x2048x2048, .f32⟩
  | .hbm, ⟨43, _⟩ => ⟨S8x2048x2048, .f32⟩
  | .hbm, ⟨44, _⟩ => ⟨S_, .f32⟩
  | .hbm, ⟨45, _⟩ => ⟨S8x2048x2048, .f32⟩
  | .hbm, ⟨46, _⟩ => ⟨S8x2048x2048, .f32⟩
  | .hbm, ⟨47, _⟩ => ⟨S8x2048x2048, .f32⟩
  | .hbm, ⟨48, _⟩ => ⟨S_, .f32⟩
  | .hbm, ⟨49, _⟩ => ⟨S8x2048, .f32⟩
  | .hbm, ⟨50, _⟩ => ⟨S8x2048x1, .f32⟩
  | .hbm, ⟨51, _⟩ => ⟨S_, .f32⟩
  | .hbm, ⟨52, _⟩ => ⟨S8x2048x1, .f32⟩
  | .hbm, ⟨53, _⟩ => ⟨S8x2048x1, .f32⟩
  | .hbm, ⟨54, _⟩ => ⟨S8x2048x2048, .f32⟩
  | .hbm, ⟨55, _⟩ => ⟨S8x2048x2048, .f32⟩
  | .hbm, ⟨56, _⟩ => ⟨S8x2048x2048, .f32⟩
  | .hbm, ⟨57, _⟩ => ⟨S_, .f32⟩
  | .hbm, ⟨58, _⟩ => ⟨S8x2048, .f32⟩
  | .hbm, ⟨59, _⟩ => ⟨S8x2048x1, .f32⟩
  | .hbm, ⟨60, _⟩ => ⟨S_, .f32⟩
  | .hbm, ⟨61, _⟩ => ⟨S8x2048x1, .f32⟩
  | .hbm, ⟨62, _⟩ => ⟨S8x2048x1, .f32⟩
  | .hbm, ⟨63, _⟩ => ⟨S8x2048x2048, .f32⟩
  | .hbm, ⟨64, _⟩ => ⟨S8x2048x2048, .f32⟩
  | .hbm, ⟨65, _⟩ => ⟨S_, .f32⟩
  | .hbm, ⟨66, _⟩ => ⟨S8x2048x1, .f32⟩
  | .hbm, ⟨67, _⟩ => ⟨S8x2048x1, .f32⟩
  | .hbm, ⟨68, _⟩ => ⟨S8x2048x1, .f32⟩
  | .hbm, ⟨69, _⟩ => ⟨S8x2048x2048, .f32⟩
  | .hbm, ⟨70, _⟩ => ⟨S8x2048x2048, .f32⟩
  | .hbm, ⟨71, _⟩ => ⟨S1x1x2048, .f32⟩
  | .hbm, ⟨72, _⟩ => ⟨S8x2048x2048, .f32⟩
  | .hbm, ⟨73, _⟩ => ⟨S8x2048x2048, .f32⟩
  | .hbm, ⟨74, _⟩ => ⟨S1x1x2048, .f32⟩
  | .hbm, ⟨75, _⟩ => ⟨S8x2048x2048, .f32⟩
  | .hbm, ⟨76, _⟩ => ⟨S8x2048x2048, .f32⟩
  | .hbm, ⟨77, _⟩ => ⟨S8x16x128x8x256, .f32⟩
  | .hbm, ⟨78, _⟩ => ⟨S_, .i1⟩
  | .hbm, ⟨79, _⟩ => ⟨S128x128, .i1⟩
  | .hbm, ⟨80, _⟩ => ⟨S128x128, .i32⟩
  | .hbm, ⟨81, _⟩ => ⟨S_, .i32⟩
  | .hbm, ⟨82, _⟩ => ⟨S128x128, .i32⟩
  | .hbm, ⟨83, _⟩ => ⟨S128x128, .i32⟩
  | .hbm, ⟨84, _⟩ => ⟨S128x128, .i32⟩
  | .hbm, ⟨85, _⟩ => ⟨S128x128, .i1⟩
  | .hbm, ⟨86, _⟩ => ⟨S_, .i1⟩
  | .hbm, ⟨87, _⟩ => ⟨S128x128, .i1⟩
  | .hbm, ⟨88, _⟩ => ⟨S128x128, .i1⟩
  | .hbm, ⟨89, _⟩ => ⟨S1x128x128, .i1⟩
  | .hbm, ⟨90, _⟩ => ⟨S_, .f32⟩
  | .hbm, ⟨91, _⟩ => ⟨S_, .f32⟩
  | .hbm, ⟨92, _⟩ => ⟨S8x128x128, .i1⟩
  | .hbm, ⟨93, _⟩ => ⟨S8x128x128, .f32⟩
  | .hbm, ⟨94, _⟩ => ⟨S8x128x128, .f32⟩
  | .hbm, ⟨95, _⟩ => ⟨S8x8x16x256x128, .f32⟩
  | .hbm, ⟨96, _⟩ => ⟨S8x16x128x8x256, .f32⟩
  | .hbm, ⟨97, _⟩ => ⟨S128x8, .f32⟩
  | .hbm, ⟨98, _⟩ => ⟨S128x8x1, .f32⟩
  | .hbm, ⟨99, _⟩ => ⟨S1x1x128x8x1, .f32⟩
  | .hbm, ⟨100, _⟩ => ⟨S8x16x128x8x256, .f32⟩
  | .hbm, ⟨101, _⟩ => ⟨S8x16x128x8x256, .f32⟩
  | .hbm, ⟨102, _⟩ => ⟨S8x2048x2048, .f32⟩
  | .hbm, ⟨103, _⟩ => ⟨S8x2048x2048, .f32⟩
  | .hbm, ⟨104, _⟩ => ⟨S8x2048x2048, .f32⟩
  | .hbm, ⟨105, _⟩ => ⟨S8x2048x2048, .f32⟩
  | .hbm, ⟨106, _⟩ => ⟨S_, .f32⟩
  | .hbm, ⟨107, _⟩ => ⟨S8x2048x2048, .f32⟩
  | .hbm, ⟨108, _⟩ => ⟨S8x2048x2048, .f32⟩
  | .hbm, ⟨109, _⟩ => ⟨S_, .f32⟩
  | .hbm, ⟨110, _⟩ => ⟨S8x2048x2048, .f32⟩
  | .hbm, ⟨111, _⟩ => ⟨S8x2048x2048, .f32⟩
  | .hbm, ⟨112, _⟩ => ⟨S8x2048x2048, .f32⟩
  | .hbm, ⟨113, _⟩ => ⟨S8x2048x2048, .f32⟩
  | .hbm, ⟨114, _⟩ => ⟨S16384x2048, .f32⟩
  | .hbm, ⟨115, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_cst_5 : Ref sig .tc := ⟨.hbm, 41, rfl⟩
abbrev main_v29 : Ref sig .tc := ⟨.hbm, 42, rfl⟩
abbrev main_v30 : Ref sig .tc := ⟨.hbm, 43, rfl⟩
abbrev main_cst_6 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_cst_7 : Ref sig .tc := ⟨.hbm, 48, rfl⟩
abbrev main_v34 : Ref sig .tc := ⟨.hbm, 49, rfl⟩
abbrev main_v35 : Ref sig .tc := ⟨.hbm, 50, rfl⟩
abbrev main_cst_8 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_9 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_cst_11 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_c : Ref sig .tc := ⟨.hbm, 78, rfl⟩
abbrev main_v59 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_c_0 : Ref sig .tc := ⟨.hbm, 86, rfl⟩
abbrev main_call0_v5 : Ref sig .tc := ⟨.hbm, 87, rfl⟩
abbrev main_v60 : Ref sig .tc := ⟨.hbm, 88, rfl⟩
abbrev main_v61 : Ref sig .tc := ⟨.hbm, 89, rfl⟩
abbrev main_cst_12 : Ref sig .tc := ⟨.hbm, 90, rfl⟩
abbrev main_call1_v0 : Ref sig .tc := ⟨.hbm, 91, rfl⟩
abbrev main_call1_v1 : Ref sig .tc := ⟨.hbm, 92, rfl⟩
abbrev main_call1_v2 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_call2_v0 : Ref sig .tc := ⟨.hbm, 104, rfl⟩
abbrev main_call2_v1 : Ref sig .tc := ⟨.hbm, 105, rfl⟩
abbrev main_call2_cst : Ref sig .tc := ⟨.hbm, 106, rfl⟩
abbrev main_call2_v2 : Ref sig .tc := ⟨.hbm, 107, rfl⟩
abbrev main_call2_v3 : Ref sig .tc := ⟨.hbm, 108, rfl⟩
abbrev main_call2_cst_0 : Ref sig .tc := ⟨.hbm, 109, rfl⟩
abbrev main_call2_v4 : Ref sig .tc := ⟨.hbm, 110, rfl⟩
abbrev main_call2_v5 : Ref sig .tc := ⟨.hbm, 111, rfl⟩
abbrev main_v72 : Ref sig .tc := ⟨.hbm, 112, rfl⟩
abbrev main_v73 : Ref sig .tc := ⟨.hbm, 113, rfl⟩
abbrev main_v74 : Ref sig .tc := ⟨.hbm, 114, rfl⟩
abbrev main_v75 : Ref sig .tc := ⟨.hbm, 115, rfl⟩

abbrev nD : Nat := 1
abbrev τ : Topo := Topo.v7x

variable {F : FTy → Type} [FloatOps F]
-- ==== Merge.lean ====
abbrev S16384x2048 : Shape := ⟨2, ![16384, 2048]⟩
abbrev S16384x17920 : Shape := ⟨2, ![16384, 17920]⟩
abbrev S3x2048x2048 : Shape := ⟨3, ![3, 2048, 2048]⟩
abbrev S1024x2048 : Shape := ⟨2, ![1024, 2048]⟩
abbrev S1024x512 : Shape := ⟨2, ![1024, 512]⟩
abbrev S3x2048x512 : Shape := ⟨3, ![3, 2048, 512]⟩
abbrev S1x2048x512 : Shape := ⟨3, ![1, 2048, 512]⟩
abbrev S2048x512 : Shape := ⟨2, ![2048, 512]⟩

abbrev nBuf : Space → Nat
  | .hbm => 7
  | .vmem => 16
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x17920, .bf16⟩
  | .hbm, ⟨4, _⟩ => ⟨S3x2048x2048, .f32⟩
  | .hbm, ⟨5, _⟩ => ⟨S3x2048x2048, .bf16⟩
  | .hbm, ⟨6, _⟩ => ⟨S16384x2048, .bf16⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S1024x2048, .bf16⟩
  | .local _ .vmem, ⟨5, _⟩ => ⟨S1024x2048, .bf16⟩
  | .local _ .vmem, ⟨6, _⟩ => ⟨S1024x512, .bf16⟩
  | .local _ .vmem, ⟨7, _⟩ => ⟨S1024x512, .bf16⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S3x2048x512, .bf16⟩
  | .local _ .vmem, ⟨13, _⟩ => ⟨S3x2048x512, .bf16⟩
  | .local _ .vmem, ⟨14, _⟩ => ⟨S1024x512, .bf16⟩
  | .local _ .vmem, ⟨15, _⟩ => ⟨S1024x512, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![16, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c20_i32 : BitVec 32 := 20#32
  let v0 : BitVec 32 := Scalar.addi c20_i32 arg1
  let c0_i32 : BitVec 32 := 0#32
  ![arg0.toNat, v0.toNat]

def cc0_transform_5 (i : grid0.Coords) : Fin 2 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  ![arg0.toNat, v0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1024x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S3x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S16384x2048 : Shape := ⟨2, ![16384, 2048]⟩
abbrev S16384x17920 : Shape := ⟨2, ![16384, 17920]⟩
abbrev S3x2048x2048 : Shape := ⟨3, ![3, 2048, 2048]⟩
abbrev S16384x6144 : Shape := ⟨2, ![16384, 6144]⟩
abbrev S_ : Shape := ⟨0, ![]⟩
abbrev S1x2048x2048 : Shape := ⟨3, ![1, 2048, 2048]⟩
abbrev S2048x2048 : Shape := ⟨2, ![2048, 2048]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S16384x2048, .bf16⟩
  | .hbm, ⟨2, _⟩ => ⟨S16384x2048, .bf16⟩
  | .hbm, ⟨3, _⟩ => ⟨S16384x17920, .bf16⟩
  | .hbm, ⟨4, _⟩ => ⟨S3x2048x2048, .f32⟩
  | .hbm, ⟨5, _⟩ => ⟨S16384x6144, .bf16⟩
  | .hbm, ⟨6, _⟩ => ⟨S16384x6144, .f32⟩
  | .hbm, ⟨7, _⟩ => ⟨S16384x6144, .f32⟩
  | .hbm, ⟨8, _⟩ => ⟨S16384x6144, .f32⟩
  | .hbm, ⟨9, _⟩ => ⟨S_, .f32⟩
  | .hbm, ⟨10, _⟩ => ⟨S16384x6144, .f32⟩
  | .hbm, ⟨11, _⟩ => ⟨S16384x6144, .f32⟩
  | .hbm, ⟨12, _⟩ => ⟨S_, .f32⟩
  | .hbm, ⟨13, _⟩ => ⟨S16384x6144, .f32⟩
  | .hbm, ⟨14, _⟩ => ⟨S16384x6144, .f32⟩
  | .hbm, ⟨15, _⟩ => ⟨S16384x2048, .f32⟩
  | .hbm, ⟨16, _⟩ => ⟨S16384x2048, .f32⟩
  | .hbm, ⟨17, _⟩ => ⟨S16384x2048, .f32⟩
  | .hbm, ⟨18, _⟩ => ⟨S16384x2048, .f32⟩
  | .hbm, ⟨19, _⟩ => ⟨S1x2048x2048, .f32⟩
  | .hbm, ⟨20, _⟩ => ⟨S2048x2048, .f32⟩
  | .hbm, ⟨21, _⟩ => ⟨S16384x2048, .f32⟩
  | .hbm, ⟨22, _⟩ => ⟨S16384x2048, .f32⟩
  | .hbm, ⟨23, _⟩ => ⟨S16384x2048, .f32⟩
  | .hbm, ⟨24, _⟩ => ⟨S1x2048x2048, .f32⟩
  | .hbm, ⟨25, _⟩ => ⟨S2048x2048, .f32⟩
  | .hbm, ⟨26, _⟩ => ⟨S16384x2048, .f32⟩
  | .hbm, ⟨27, _⟩ => ⟨S16384x2048, .f32⟩
  | .hbm, ⟨28, _⟩ => ⟨S16384x2048, .f32⟩
  | .hbm, ⟨29, _⟩ => ⟨S16384x2048, .f32⟩
  | .hbm, ⟨30, _⟩ => ⟨S1x2048x2048, .f32⟩
  | .hbm, ⟨31, _⟩ => ⟨S2048x2048, .f32⟩
  | .hbm, ⟨32, _⟩ => ⟨S16384x2048, .f32⟩
  | .hbm, ⟨33, _⟩ => ⟨S16384x2048, .f32⟩
  | .hbm, ⟨34, _⟩ => ⟨S16384x2048, .f32⟩
  | .hbm, ⟨35, _⟩ => ⟨S16384x2048, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩

abbrev nD : Nat := 1
abbrev τ : Topo := Topo.v7x

variable {F : FTy → Type} [FloatOps F]
-- ==== Proj.lean ====
abbrev S16384x2048 : Shape := ⟨2, ![16384, 2048]⟩
abbrev S2x2048x23600 : Shape := ⟨3, ![2, 2048, 23600]⟩
abbrev S2x23600x2048 : Shape := ⟨3, ![2, 23600, 2048]⟩
abbrev S2x48x2048 : Shape := ⟨3, ![2, 48, 2048]⟩
abbrev S2x3x4x4x2048 : Shape := ⟨5, ![2, 3, 4, 4, 2048]⟩
abbrev S2x4x3x4x2048 : Shape := ⟨5, ![2, 4, 3, 4, 2048]⟩
abbrev S2x4x12x2048 : Shape := ⟨4, ![2, 4, 12, 2048]⟩
abbrev S_ : Shape := ⟨0, ![]⟩
abbrev S2x4x128x2048 : Shape := ⟨4, ![2, 4, 128, 2048]⟩
abbrev S2x512x2048 : Shape := ⟨3, ![2, 512, 2048]⟩
abbrev S2x2048x2048 : Shape := ⟨3, ![2, 2048, 2048]⟩
abbrev S2x12288x2048 : Shape := ⟨3, ![2, 12288, 2048]⟩
abbrev S2x3072x2048 : Shape := ⟨3, ![2, 3072, 2048]⟩
abbrev S2x6144x2048 : Shape := ⟨3, ![2, 6144, 2048]⟩
abbrev S2x24064x2048 : Shape := ⟨3, ![2, 24064, 2048]⟩
abbrev S16384x17920 : Shape := ⟨2, ![16384, 17920]⟩
abbrev S1024x2048 : Shape := ⟨2, ![1024, 2048]⟩
abbrev S1x2560x2048 : Shape := ⟨3, ![1, 2560, 2048]⟩
abbrev S1024x2560 : Shape := ⟨2, ![1024, 2560]⟩
abbrev S2560x2048 : Shape := ⟨2, ![2560, 2048]⟩

abbrev nBuf : Space → Nat
  | .hbm => 21
  | .vmem => 6
  | .smem => 0
  | _ => 0

abbrev bufTy : (tb : Table) → Fin (tcTables nBuf tb) → BufTy
  | .hbm, ⟨0, _⟩ => ⟨S16384x2048, .bf16⟩
  | .hbm, ⟨1, _⟩ => ⟨S2x2048x23600, .f32⟩
  | .hbm, ⟨2, _⟩ => ⟨S2x23600x2048, .f32⟩
  | .hbm, ⟨3, _⟩ => ⟨S2x48x2048, .f32⟩
  | .hbm, ⟨4, _⟩ => ⟨S2x3x4x4x2048, .f32⟩
  | .hbm, ⟨5, _⟩ => ⟨S2x4x3x4x2048, .f32⟩
  | .hbm, ⟨6, _⟩ => ⟨S2x4x12x2048, .f32⟩
  | .hbm, ⟨7, _⟩ => ⟨S_, .i32⟩
  | .hbm, ⟨8, _⟩ => ⟨S_, .f32⟩
  | .hbm, ⟨9, _⟩ => ⟨S2x4x128x2048, .f32⟩
  | .hbm, ⟨10, _⟩ => ⟨S2x512x2048, .f32⟩
  | .hbm, ⟨11, _⟩ => ⟨S2x2048x2048, .f32⟩
  | .hbm, ⟨12, _⟩ => ⟨S_, .f32⟩
  | .hbm, ⟨13, _⟩ => ⟨S2x2048x2048, .f32⟩
  | .hbm, ⟨14, _⟩ => ⟨S2x2048x2048, .f32⟩
  | .hbm, ⟨15, _⟩ => ⟨S2x12288x2048, .f32⟩
  | .hbm, ⟨16, _⟩ => ⟨S2x3072x2048, .f32⟩
  | .hbm, ⟨17, _⟩ => ⟨S2x6144x2048, .f32⟩
  | .hbm, ⟨18, _⟩ => ⟨S2x24064x2048, .f32⟩
  | .hbm, ⟨19, _⟩ => ⟨S2x24064x2048, .bf16⟩
  | .hbm, ⟨20, _⟩ => ⟨S16384x17920, .bf16⟩
  | .local _ .vmem, ⟨0, _⟩ => ⟨S1024x2048, .bf16⟩
  | .local _ .vmem, ⟨1, _⟩ => ⟨S1024x2048, .bf16⟩
  | .local _ .vmem, ⟨2, _⟩ => ⟨S1x2560x2048, .bf16⟩
  | .local _ .vmem, ⟨3, _⟩ => ⟨S1x2560x2048, .bf16⟩
  | .local _ .vmem, ⟨4, _⟩ => ⟨S1024x2560, .bf16⟩
  | .local _ .vmem, ⟨5, _⟩ => ⟨S1024x2560, .bf16⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_c : Ref sig .tc := ⟨.hbm, 7, rfl⟩
abbrev main_call0_v0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![16, 7], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x2560x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2560 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ProjRefIdeal.lean ====
abbrev S16384x2048 : Shape := ⟨2, ![16384, 2048]⟩
abbrev S2x2048x23600 : Shape := ⟨3, ![2, 2048, 23600]⟩
abbrev S1x2048x23600 : Shape := ⟨3, ![1, 2048, 23600]⟩
abbrev S2048x23600 : Shape := ⟨2, ![2048, 23600]⟩
abbrev S16384x23600 : Shape := ⟨2, ![16384, 23600]⟩
abbrev S16384x3072 : Shape := ⟨2, ![16384, 3072]⟩
abbrev S16384x48 : Shape := ⟨2, ![16384, 48]⟩
abbrev S16384x6144 : Shape := ⟨2, ![16384, 6144]⟩
abbrev S16384x3x4x4 : Shape := ⟨4, ![16384, 3, 4, 4]⟩
abbrev S16384x4x3x4 : Shape := ⟨4, ![16384, 4, 3, 4]⟩
abbrev S16384x4x12 : Shape := ⟨3, ![16384, 4, 12]⟩
abbrev S_ : Shape := ⟨0, ![]⟩
abbrev S16384x4x128 : Shape := ⟨3, ![16384, 4, 128]⟩
abbrev S16384x512 : Shape := ⟨2, ![16384, 512]⟩
abbrev S16384x17920 : Shape := ⟨2, ![16384, 17920]⟩

abbrev nBuf : Space → Nat
  | .hbm => 28
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2x2048x23600, .f32⟩
  | .hbm, ⟨2, _⟩ => ⟨S16384x2048, .f32⟩
  | .hbm, ⟨3, _⟩ => ⟨S1x2048x23600, .f32⟩
  | .hbm, ⟨4, _⟩ => ⟨S2048x23600, .f32⟩
  | .hbm, ⟨5, _⟩ => ⟨S16384x23600, .f32⟩
  | .hbm, ⟨6, _⟩ => ⟨S16384x2048, .f32⟩
  | .hbm, ⟨7, _⟩ => ⟨S16384x2048, .f32⟩
  | .hbm, ⟨8, _⟩ => ⟨S16384x2048, .f32⟩
  | .hbm, ⟨9, _⟩ => ⟨S16384x2048, .f32⟩
  | .hbm, ⟨10, _⟩ => ⟨S16384x3072, .f32⟩
  | .hbm, ⟨11, _⟩ => ⟨S16384x48, .f32⟩
  | .hbm, ⟨12, _⟩ => ⟨S16384x2048, .f32⟩
  | .hbm, ⟨13, _⟩ => ⟨S16384x2048, .f32⟩
  | .hbm, ⟨14, _⟩ => ⟨S16384x2048, .f32⟩
  | .hbm, ⟨15, _⟩ => ⟨S16384x6144, .f32⟩
  | .hbm, ⟨16, _⟩ => ⟨S16384x3x4x4, .f32⟩
  | .hbm, ⟨17, _⟩ => ⟨S16384x4x3x4, .f32⟩
  | .hbm, ⟨18, _⟩ => ⟨S16384x4x12, .f32⟩
  | .hbm, ⟨19, _⟩ => ⟨S_, .i32⟩
  | .hbm, ⟨20, _⟩ => ⟨S_, .f32⟩
  | .hbm, ⟨21, _⟩ => ⟨S16384x4x128, .f32⟩
  | .hbm, ⟨22, _⟩ => ⟨S16384x512, .f32⟩
  | .hbm, ⟨23, _⟩ => ⟨S_, .f32⟩
  | .hbm, ⟨24, _⟩ => ⟨S16384x2048, .f32⟩
  | .hbm, ⟨25, _⟩ => ⟨S16384x2048, .f32⟩
  | .hbm, ⟨26, _⟩ => ⟨S16384x17920, .f32⟩
  | .hbm, ⟨27, _⟩ => ⟨S16384x17920, .bf16⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_v13 : Ref sig .tc := ⟨.hbm, 15, rfl⟩
abbrev main_v14 : Ref sig .tc := ⟨.hbm, 16, rfl⟩
abbrev main_v15 : Ref sig .tc := ⟨.hbm, 17, rfl⟩
abbrev main_v16 : Ref sig .tc := ⟨.hbm, 18, rfl⟩
abbrev main_c : Ref sig .tc := ⟨.hbm, 19, rfl⟩
abbrev main_call0_v0 : Ref sig .tc := ⟨.hbm, 20, rfl⟩
abbrev main_v17 : Ref sig .tc := ⟨.hbm, 21, rfl⟩
abbrev main_v18 : Ref sig .tc := ⟨.hbm, 22, rfl⟩
abbrev main_cst : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩

abbrev nD : Nat := 1
abbrev τ : Topo := Topo.v7x

variable {F : FTy → Type} [FloatOps F]
-- ==== Out.lean ====
abbrev S16384x2048 : Shape := ⟨2, ![16384, 2048]⟩
abbrev S2048x2048 : Shape := ⟨2, ![2048, 2048]⟩
abbrev S8x2048x2048 : Shape := ⟨3, ![8, 2048, 2048]⟩
abbrev S8x6144 : Shape := ⟨2, ![8, 6144]⟩
abbrev S2048 : Shape := ⟨1, ![2048]⟩
abbrev S8x3x2048 : Shape := ⟨3, ![8, 3, 2048]⟩
abbrev S1x2048 : Shape := ⟨2, ![1, 2048]⟩
abbrev S512x2048 : Shape := ⟨2, ![512, 2048]⟩
abbrev S1x3x2048 : Shape := ⟨3, ![1, 3, 2048]⟩
abbrev S1x1x2048 : Shape := ⟨3, ![1, 1, 2048]⟩
abbrev S512 : Shape := ⟨1, ![512]⟩
abbrev S512x1 : Shape := ⟨2, ![512, 1]⟩

abbrev nBuf : Space → Nat
  | .hbm => 10
  | .vmem => 10
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S8x2048x2048, .f32⟩
  | .hbm, ⟨3, _⟩ => ⟨S8x6144, .f32⟩
  | .hbm, ⟨4, _⟩ => ⟨S2048, .f32⟩
  | .hbm, ⟨5, _⟩ => ⟨S2048x2048, .bf16⟩
  | .hbm, ⟨6, _⟩ => ⟨S16384x2048, .f32⟩
  | .hbm, ⟨7, _⟩ => ⟨S8x3x2048, .f32⟩
  | .hbm, ⟨8, _⟩ => ⟨S1x2048, .f32⟩
  | .hbm, ⟨9, _⟩ => ⟨S16384x2048, .f32⟩
  | .local _ .vmem, ⟨0, _⟩ => ⟨S512x2048, .bf16⟩
  | .local _ .vmem, ⟨1, _⟩ => ⟨S512x2048, .bf16⟩
  | .local _ .vmem, ⟨2, _⟩ => ⟨S2048x2048, .bf16⟩
  | .local _ .vmem, ⟨3, _⟩ => ⟨S512x2048, .f32⟩
  | .local _ .vmem, ⟨4, _⟩ => ⟨S512x2048, .f32⟩
  | .local _ .vmem, ⟨5, _⟩ => ⟨S1x3x2048, .f32⟩
  | .local _ .vmem, ⟨6, _⟩ => ⟨S1x3x2048, .f32⟩
  | .local _ .vmem, ⟨7, _⟩ => ⟨S1x2048, .f32⟩
  | .local _ .vmem, ⟨8, _⟩ => ⟨S512x2048, .f32⟩
  | .local _ .vmem, ⟨9, _⟩ => ⟨S512x2048, .f32⟩
  | _, _ => ⟨S16384x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![v16.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S2048x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== OutRefIdeal.lean ====
abbrev S16384x2048 : Shape := ⟨2, ![16384, 2048]⟩
abbrev S2048x2048 : Shape := ⟨2, ![2048, 2048]⟩
abbrev S8x2048x2048 : Shape := ⟨3, ![8, 2048, 2048]⟩
abbrev S8x6144 : Shape := ⟨2, ![8, 6144]⟩
abbrev S2048 : Shape := ⟨1, ![2048]⟩
abbrev S8x2048 : Shape := ⟨2, ![8, 2048]⟩
abbrev S8x1x2048 : Shape := ⟨3, ![8, 1, 2048]⟩
abbrev S_ : Shape := ⟨0, ![]⟩
abbrev S8x2048x1 : Shape := ⟨3, ![8, 2048, 1]⟩
abbrev S1x1x2048 : Shape := ⟨3, ![1, 1, 2048]⟩

abbrev nBuf : Space → Nat
  | .hbm => 32
  | .vmem => 0
  | .smem => 0
  | _ => 0

abbrev bufTy : (tb : Table) → Fin (tcTables nBuf tb) → BufTy
  | .hbm, ⟨0, _⟩ => ⟨S16384x2048, .bf16⟩
  | .hbm, ⟨1, _⟩ => ⟨S2048x2048, .f32⟩
  | .hbm, ⟨2, _⟩ => ⟨S8x2048x2048, .f32⟩
  | .hbm, ⟨3, _⟩ => ⟨S8x6144, .f32⟩
  | .hbm, ⟨4, _⟩ => ⟨S2048, .f32⟩
  | .hbm, ⟨5, _⟩ => ⟨S8x2048, .f32⟩
  | .hbm, ⟨6, _⟩ => ⟨S8x2048, .f32⟩
  | .hbm, ⟨7, _⟩ => ⟨S8x2048, .f32⟩
  | .hbm, ⟨8, _⟩ => ⟨S8x1x2048, .f32⟩
  | .hbm, ⟨9, _⟩ => ⟨S16384x2048, .f32⟩
  | .hbm, ⟨10, _⟩ => ⟨S8x2048x2048, .f32⟩
  | .hbm, ⟨11, _⟩ => ⟨S8x2048x2048, .f32⟩
  | .hbm, ⟨12, _⟩ => ⟨S8x2048x2048, .f32⟩
  | .hbm, ⟨13, _⟩ => ⟨S8x2048x2048, .f32⟩
  | .hbm, ⟨14, _⟩ => ⟨S8x2048x2048, .f32⟩
  | .hbm, ⟨15, _⟩ => ⟨S8x2048x2048, .f32⟩
  | .hbm, ⟨16, _⟩ => ⟨S_, .f32⟩
  | .hbm, ⟨17, _⟩ => ⟨S8x2048, .f32⟩
  | .hbm, ⟨18, _⟩ => ⟨S8x2048x1, .f32⟩
  | .hbm, ⟨19, _⟩ => ⟨S_, .f32⟩
  | .hbm, ⟨20, _⟩ => ⟨S8x2048x1, .f32⟩
  | .hbm, ⟨21, _⟩ => ⟨S8x2048x1, .f32⟩
  | .hbm, ⟨22, _⟩ => ⟨S_, .f32⟩
  | .hbm, ⟨23, _⟩ => ⟨S8x2048x1, .f32⟩
  | .hbm, ⟨24, _⟩ => ⟨S8x2048x1, .f32⟩
  | .hbm, ⟨25, _⟩ => ⟨S8x2048x1, .f32⟩
  | .hbm, ⟨26, _⟩ => ⟨S8x2048x2048, .f32⟩
  | .hbm, ⟨27, _⟩ => ⟨S8x2048x2048, .f32⟩
  | .hbm, ⟨28, _⟩ => ⟨S1x1x2048, .f32⟩
  | .hbm, ⟨29, _⟩ => ⟨S8x2048x2048, .f32⟩
  | .hbm, ⟨30, _⟩ => ⟨S8x2048x2048, .f32⟩
  | .hbm, ⟨31, _⟩ => ⟨S16384x2048, .f32⟩
  | _, _ => ⟨S16384x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst : Ref sig .tc := ⟨.hbm, 16, rfl⟩
abbrev main_v11 : Ref sig .tc := ⟨.hbm, 17, rfl⟩
abbrev main_v12 : Ref sig .tc := ⟨.hbm, 18, rfl⟩
abbrev main_cst_0 : Ref sig .tc := ⟨.hbm, 19, rfl⟩
abbrev main_v13 : Ref sig .tc := ⟨.hbm, 20, rfl⟩
abbrev main_v14 : Ref sig .tc := ⟨.hbm, 21, rfl⟩
abbrev main_cst_1 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Pool.lean ====
abbrev S16384x17920 : Shape := ⟨2, ![16384, 17920]⟩
abbrev S4x512x512 : Shape := ⟨3, ![4, 512, 512]⟩
abbrev S2048 : Shape := ⟨1, ![2048]⟩
abbrev S1x2048 : Shape := ⟨2, ![1, 2048]⟩
abbrev S16384x2048 : Shape := ⟨2, ![16384, 2048]⟩
abbrev S512x2048 : Shape := ⟨2, ![512, 2048]⟩
abbrev S16x2048 : Shape := ⟨2, ![16, 2048]⟩
abbrev S544x2048 : Shape := ⟨2, ![544, 2048]⟩
abbrev S3x544x2048 : Shape := ⟨3, ![3, 544, 2048]⟩
abbrev S512x1 : Shape := ⟨2, ![512, 1]⟩
abbrev S512x512 : Shape := ⟨2, ![512, 512]⟩
abbrev S1x512x512 : Shape := ⟨3, ![1, 512, 512]⟩
abbrev S1x512 : Shape := ⟨2, ![1, 512]⟩
abbrev S520x512 : Shape := ⟨2, ![520, 512]⟩
abbrev S1x520x512 : Shape := ⟨3, ![1, 520, 512]⟩
abbrev S1x544x2048 : Shape := ⟨3, ![1, 544, 2048]⟩
abbrev S528x512 : Shape := ⟨2, ![528, 512]⟩
abbrev S1x528x512 : Shape := ⟨3, ![1, 528, 512]⟩
abbrev S536x512 : Shape := ⟨2, ![536, 512]⟩
abbrev S1x536x512 : Shape := ⟨3, ![1, 536, 512]⟩

abbrev nBuf : Space → Nat
  | .hbm => 5
  | .vmem => 12
  | .smem => 0
  | _ => 0

abbrev bufTy : (tb : Table) → Fin (tcTables nBuf tb) → BufTy
  | .hbm, ⟨0, _⟩ => ⟨S16384x17920, .bf16⟩
  | .hbm, ⟨1, _⟩ => ⟨S4x512x512, .f32⟩
  | .hbm, ⟨2, _⟩ => ⟨S2048, .f32⟩
  | .hbm, ⟨3, _⟩ => ⟨S1x2048, .f32⟩
  | .hbm, ⟨4, _⟩ => ⟨S16384x2048, .bf16⟩
  | .local _ .vmem, ⟨0, _⟩ => ⟨S512x2048, .bf16⟩
  | .local _ .vmem, ⟨1, _⟩ => ⟨S512x2048, .bf16⟩
  | .local _ .vmem, ⟨2, _⟩ => ⟨S16x2048, .bf16⟩
  | .local _ .vmem, ⟨3, _⟩ => ⟨S16x2048, .bf16⟩
  | .local _ .vmem, ⟨4, _⟩ => ⟨S512x2048, .bf16⟩
  | .local _ .vmem, ⟨5, _⟩ => ⟨S512x2048, .bf16⟩
  | .local _ .vmem, ⟨6, _⟩ => ⟨S4x512x512, .f32⟩
  | .local _ .vmem, ⟨7, _⟩ => ⟨S1x2048, .f32⟩
  | .local _ .vmem, ⟨8, _⟩ => ⟨S512x2048, .bf16⟩
  | .local _ .vmem, ⟨9, _⟩ => ⟨S512x2048, .bf16⟩
  | .local _ .vmem, ⟨10, _⟩ => ⟨S544x2048, .f32⟩
  | .local _ .vmem, ⟨11, _⟩ => ⟨S3x544x2048, .f32⟩
  | _, _ => ⟨S16384x17920, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c2_i32 : BitVec 32 := 2#32
  let c0_i32 : BitVec 32 := 0#32
  ![arg0.toNat, c2_i32.toNat]

def cc0_transform_1 (i : grid0.Coords) : Fin 2 → Nat :=
  let arg0 : BitVec 32 := BitVec.ofNat 32 (i 0).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c2_i32 : BitVec 32 := 2#32
  let c0_i32_0 : BitVec 32 := 0#32
  ![v2.toNat, c2_i32.toNat]

def cc0_transform_2 (i : grid0.Coords) : Fin 2 → Nat :=
  let arg0 : BitVec 32 := BitVec.ofNat 32 (i 0).val
  let c3_i32 : BitVec 32 := 3#32
  let c0_i32 : BitVec 32 := 0#32
  ![arg0.toNat, c3_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== PoolRefIdeal.lean ====
abbrev S16384x17920 : Shape := ⟨2, ![16384, 17920]⟩
abbrev S4x512x512 : Shape := ⟨3, ![4, 512, 512]⟩
abbrev S2048 : Shape := ⟨1, ![2048]⟩
abbrev S16384x2048 : Shape := ⟨2, ![16384, 2048]⟩
abbrev S8x2048x2048 : Shape := ⟨3, ![8, 2048, 2048]⟩
abbrev S_ : Shape := ⟨0, ![]⟩
abbrev S8x2048x512 : Shape := ⟨3, ![8, 2048, 512]⟩
abbrev S1x2048x1 : Shape := ⟨3, ![1, 2048, 1]⟩
abbrev S8x2048x1x512 : Shape := ⟨4, ![8, 2048, 1, 512]⟩
abbrev S8x2048x4x512 : Shape := ⟨4, ![8, 2048, 4, 512]⟩
abbrev S4x512x8x2048 : Shape := ⟨4, ![4, 512, 8, 2048]⟩
abbrev S1x1x2048 : Shape := ⟨3, ![1, 1, 2048]⟩

abbrev nBuf : Space → Nat
  | .hbm => 125
  | .vmem => 0
  | .smem => 0
  | _ => 0

abbrev bufTy : (tb : Table) → Fin (tcTables nBuf tb) → BufTy
  | .hbm, ⟨0, _⟩ => ⟨S16384x17920, .bf16⟩
  | .hbm, ⟨1, _⟩ => ⟨S4x512x512, .f32⟩
  | .hbm, ⟨2, _⟩ => ⟨S2048, .f32⟩
  | .hbm, ⟨3, _⟩ => ⟨S16384x2048, .bf16⟩
  | .hbm, ⟨4, _⟩ => ⟨S16384x2048, .f32⟩
  | .hbm, ⟨5, _⟩ => ⟨S8x2048x2048, .f32⟩
  | .hbm, ⟨6, _⟩ => ⟨S16384x2048, .bf16⟩
  | .hbm, ⟨7, _⟩ => ⟨S16384x2048, .f32⟩
  | .hbm, ⟨8, _⟩ => ⟨S8x2048x2048, .f32⟩
  | .hbm, ⟨9, _⟩ => ⟨S2048, .i32⟩
  | .hbm, ⟨10, _⟩ => ⟨S_, .i32⟩
  | .hbm, ⟨11, _⟩ => ⟨S2048, .i32⟩
  | .hbm, ⟨12, _⟩ => ⟨S2048, .i32⟩
  | .hbm, ⟨13, _⟩ => ⟨S_, .i32⟩
  | .hbm, ⟨14, _⟩ => ⟨S2048, .i32⟩
  | .hbm, ⟨15, _⟩ => ⟨S2048, .i32⟩
  | .hbm, ⟨16, _⟩ => ⟨S_, .i32⟩
  | .hbm, ⟨17, _⟩ => ⟨S2048, .i32⟩
  | .hbm, ⟨18, _⟩ => ⟨S2048, .i32⟩
  | .hbm, ⟨19, _⟩ => ⟨S_, .i32⟩
  | .hbm, ⟨20, _⟩ => ⟨S2048, .i32⟩
  | .hbm, ⟨21, _⟩ => ⟨S2048, .i32⟩
  | .hbm, ⟨22, _⟩ => ⟨S2048, .i32⟩
  | .hbm, ⟨23, _⟩ => ⟨S2048, .f32⟩
  | .hbm, ⟨24, _⟩ => ⟨S8x2048x512, .f32⟩
  | .hbm, ⟨25, _⟩ => ⟨S_, .f32⟩
  | .hbm, ⟨26, _⟩ => ⟨S_, .f32⟩
  | .hbm, ⟨27, _⟩ => ⟨S8x2048x512, .f32⟩
  | .hbm, ⟨28, _⟩ => ⟨S1x2048x1, .f32⟩
  | .hbm, ⟨29, _⟩ => ⟨S8x2048x512, .f32⟩
  | .hbm, ⟨30, _⟩ => ⟨S8x2048x512, .f32⟩
  | .hbm, ⟨31, _⟩ => ⟨S8x2048x512, .f32⟩
  | .hbm, ⟨32, _⟩ => ⟨S8x2048x512, .f32⟩
  | .hbm, ⟨33, _⟩ => ⟨S_, .i32⟩
  | .hbm, ⟨34, _⟩ => ⟨S2048, .i32⟩
  | .hbm, ⟨35, _⟩ => ⟨S2048, .i32⟩
  | .hbm, ⟨36, _⟩ => ⟨S_, .i32⟩
  | .hbm, ⟨37, _⟩ => ⟨S2048, .i32⟩
  | .hbm, ⟨38, _⟩ => ⟨S2048, .i32⟩
  | .hbm, ⟨39, _⟩ => ⟨S_, .i32⟩
  | .hbm, ⟨40, _⟩ => ⟨S2048, .i32⟩
  | .hbm, ⟨41, _⟩ => ⟨S2048, .i32⟩
  | .hbm, ⟨42, _⟩ => ⟨S_, .i32⟩
  | .hbm, ⟨43, _⟩ => ⟨S2048, .i32⟩
  | .hbm, ⟨44, _⟩ => ⟨S2048, .i32⟩
  | .hbm, ⟨45, _⟩ => ⟨S2048, .i32⟩
  | .hbm, ⟨46, _⟩ => ⟨S2048, .f32⟩
  | .hbm, ⟨47, _⟩ => ⟨S8x2048x512, .f32⟩
  | .hbm, ⟨48, _⟩ => ⟨S_, .f32⟩
  | .hbm, ⟨49, _⟩ => ⟨S_, .f32⟩
  | .hbm, ⟨50, _⟩ => ⟨S8x2048x512, .f32⟩
  | .hbm, ⟨51, _⟩ => ⟨S1x2048x1, .f32⟩
  | .hbm, ⟨52, _⟩ => ⟨S8x2048x512, .f32⟩
  | .hbm, ⟨53, _⟩ => ⟨S8x2048x512, .f32⟩
  | .hbm, ⟨54, _⟩ => ⟨S8x2048x512, .f32⟩
  | .hbm, ⟨55, _⟩ => ⟨S8x2048x512, .f32⟩
  | .hbm, ⟨56, _⟩ => ⟨S_, .i32⟩
  | .hbm, ⟨57, _⟩ => ⟨S2048, .i32⟩
  | .hbm, ⟨58, _⟩ => ⟨S2048, .i32⟩
  | .hbm, ⟨59, _⟩ => ⟨S_, .i32⟩
  | .hbm, ⟨60, _⟩ => ⟨S2048, .i32⟩
  | .hbm, ⟨61, _⟩ => ⟨S2048, .i32⟩
  | .hbm, ⟨62, _⟩ => ⟨S_, .i32⟩
  | .hbm, ⟨63, _⟩ => ⟨S2048, .i32⟩
  | .hbm, ⟨64, _⟩ => ⟨S2048, .i32⟩
  | .hbm, ⟨65, _⟩ => ⟨S_, .i32⟩
  | .hbm, ⟨66, _⟩ => ⟨S2048, .i32⟩
  | .hbm, ⟨67, _⟩ => ⟨S2048, .i32⟩
  | .hbm, ⟨68, _⟩ => ⟨S2048, .i32⟩
  | .hbm, ⟨69, _⟩ => ⟨S2048, .f32⟩
  | .hbm, ⟨70, _⟩ => ⟨S8x2048x512, .f32⟩
  | .hbm, ⟨71, _⟩ => ⟨S_, .f32⟩
  | .hbm, ⟨72, _⟩ => ⟨S_, .f32⟩
  | .hbm, ⟨73, _⟩ => ⟨S8x2048x512, .f32⟩
  | .hbm, ⟨74, _⟩ => ⟨S1x2048x1, .f32⟩
  | .hbm, ⟨75, _⟩ => ⟨S8x2048x512, .f32⟩
  | .hbm, ⟨76, _⟩ => ⟨S8x2048x512, .f32⟩
  | .hbm, ⟨77, _⟩ => ⟨S8x2048x512, .f32⟩
  | .hbm, ⟨78, _⟩ => ⟨S8x2048x512, .f32⟩
  | .hbm, ⟨79, _⟩ => ⟨S_, .i32⟩
  | .hbm, ⟨80, _⟩ => ⟨S2048, .i32⟩
  | .hbm, ⟨81, _⟩ => ⟨S2048, .i32⟩
  | .hbm, ⟨82, _⟩ => ⟨S_, .i32⟩
  | .hbm, ⟨83, _⟩ => ⟨S2048, .i32⟩
  | .hbm, ⟨84, _⟩ => ⟨S2048, .i32⟩
  | .hbm, ⟨85, _⟩ => ⟨S_, .i32⟩
  | .hbm, ⟨86, _⟩ => ⟨S2048, .i32⟩
  | .hbm, ⟨87, _⟩ => ⟨S2048, .i32⟩
  | .hbm, ⟨88, _⟩ => ⟨S_, .i32⟩
  | .hbm, ⟨89, _⟩ => ⟨S2048, .i32⟩
  | .hbm, ⟨90, _⟩ => ⟨S2048, .i32⟩
  | .hbm, ⟨91, _⟩ => ⟨S2048, .i32⟩
  | .hbm, ⟨92, _⟩ => ⟨S2048, .f32⟩
  | .hbm, ⟨93, _⟩ => ⟨S8x2048x512, .f32⟩
  | .hbm, ⟨94, _⟩ => ⟨S_, .f32⟩
  | .hbm, ⟨95, _⟩ => ⟨S_, .f32⟩
  | .hbm, ⟨96, _⟩ => ⟨S8x2048x512, .f32⟩
  | .hbm, ⟨97, _⟩ => ⟨S1x2048x1, .f32⟩
  | .hbm, ⟨98, _⟩ => ⟨S8x2048x512, .f32⟩
  | .hbm, ⟨99, _⟩ => ⟨S8x2048x512, .f32⟩
  | .hbm, ⟨100, _⟩ => ⟨S8x2048x512, .f32⟩
  | .hbm, ⟨101, _⟩ => ⟨S8x2048x512, .f32⟩
  | .hbm, ⟨102, _⟩ => ⟨S8x2048x1x512, .f32⟩
  | .hbm, ⟨103, _⟩ => ⟨S8x2048x1x512, .f32⟩
  | .hbm, ⟨104, _⟩ => ⟨S8x2048x1x512, .f32⟩
  | .hbm, ⟨105, _⟩ => ⟨S8x2048x1x512, .f32⟩
  | .hbm, ⟨106, _⟩ => ⟨S8x2048x4x512, .f32⟩
  | .hbm, ⟨107, _⟩ => ⟨S4x512x8x2048, .f32⟩
  | .hbm, ⟨108, _⟩ => ⟨S8x2048x4x512, .f32⟩
  | .hbm, ⟨109, _⟩ => ⟨S8x2048x2048, .f32⟩
  | .hbm, ⟨110, _⟩ => ⟨S1x1x2048, .f32⟩
  | .hbm, ⟨111, _⟩ => ⟨S8x2048x2048, .f32⟩
  | .hbm, ⟨112, _⟩ => ⟨S8x2048x2048, .f32⟩
  | .hbm, ⟨113, _⟩ => ⟨S8x2048x2048, .f32⟩
  | .hbm, ⟨114, _⟩ => ⟨S8x2048x2048, .f32⟩
  | .hbm, ⟨115, _⟩ => ⟨S_, .f32⟩
  | .hbm, ⟨116, _⟩ => ⟨S8x2048x2048, .f32⟩
  | .hbm, ⟨117, _⟩ => ⟨S8x2048x2048, .f32⟩
  | .hbm, ⟨118, _⟩ => ⟨S_, .f32⟩
  | .hbm, ⟨119, _⟩ => ⟨S8x2048x2048, .f32⟩
  | .hbm, ⟨120, _⟩ => ⟨S8x2048x2048, .f32⟩
  | .hbm, ⟨121, _⟩ => ⟨S8x2048x2048, .f32⟩
  | .hbm, ⟨122, _⟩ => ⟨S8x2048x2048, .f32⟩
  | .hbm, ⟨123, _⟩ => ⟨S16384x2048, .f32⟩
  | .hbm, ⟨124, _⟩ => ⟨S16384x2048, .bf16⟩
  | _, _ => ⟨S16384x17920, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_c : Ref sig .tc := ⟨.hbm, 10, rfl⟩
abbrev main_v7 : Ref sig .tc := ⟨.hbm, 11, rfl⟩
abbrev main_v8 : Ref sig .tc := ⟨.hbm, 12, rfl⟩
abbrev main_c_0 : Ref sig .tc := ⟨.hbm, 13, rfl⟩
abbrev main_v9 : Ref sig .tc := ⟨.hbm, 14, rfl⟩
abbrev main_v10 : Ref sig .tc := ⟨.hbm, 15, rfl⟩
abbrev main_c_1 : Ref sig .tc := ⟨.hbm, 16, rfl⟩
abbrev main_v11 : Ref sig .tc := ⟨.hbm, 17, rfl⟩
abbrev main_v12 : Ref sig .tc := ⟨.hbm, 18, rfl⟩
abbrev main_c_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_c_3 : Ref sig .tc := ⟨.hbm, 33, rfl⟩
abbrev main_v25 : Ref sig .tc := ⟨.hbm, 34, rfl⟩
abbrev main_v26 : Ref sig .tc := ⟨.hbm, 35, rfl⟩
abbrev main_c_4 : Ref sig .tc := ⟨.hbm, 36, rfl⟩
abbrev main_v27 : Ref sig .tc := ⟨.hbm, 37, rfl⟩
abbrev main_v28 : Ref sig .tc := ⟨.hbm, 38, rfl⟩
abbrev main_c_5 : Ref sig .tc := ⟨.hbm, 39, rfl⟩
abbrev main_v29 : Ref sig .tc := ⟨.hbm, 40, rfl⟩
abbrev main_v30 : Ref sig .tc := ⟨.hbm, 41, rfl⟩
abbrev main_c_6 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_7 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_c_8 : Ref sig .tc := ⟨.hbm, 56, rfl⟩
abbrev main_v43 : Ref sig .tc := ⟨.hbm, 57, rfl⟩
abbrev main_v44 : Ref sig .tc := ⟨.hbm, 58, rfl⟩
abbrev main_c_9 : Ref sig .tc := ⟨.hbm, 59, rfl⟩
abbrev main_v45 : Ref sig .tc := ⟨.hbm, 60, rfl⟩
abbrev main_v46 : Ref sig .tc := ⟨.hbm, 61, rfl⟩
abbrev main_c_10 : Ref sig .tc := ⟨.hbm, 62, rfl⟩
abbrev main_v47 : Ref sig .tc := ⟨.hbm, 63, rfl⟩
abbrev main_v48 : Ref sig .tc := ⟨.hbm, 64, rfl⟩
abbrev main_c_11 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_12 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_c_13 : Ref sig .tc := ⟨.hbm, 79, rfl⟩
abbrev main_v61 : Ref sig .tc := ⟨.hbm, 80, rfl⟩
abbrev main_v62 : Ref sig .tc := ⟨.hbm, 81, rfl⟩
abbrev main_c_14 : Ref sig .tc := ⟨.hbm, 82, rfl⟩
abbrev main_v63 : Ref sig .tc := ⟨.hbm, 83, rfl⟩
abbrev main_v64 : Ref sig .tc := ⟨.hbm, 84, rfl⟩
abbrev main_c_15 : Ref sig .tc := ⟨.hbm, 85, rfl⟩
abbrev main_v65 : Ref sig .tc := ⟨.hbm, 86, rfl⟩
abbrev main_v66 : Ref sig .tc := ⟨.hbm, 87, rfl⟩
abbrev main_c_16 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_cst_17 : Ref sig .tc := ⟨.hbm, 94, rfl⟩
abbrev main_v72 : Ref sig .tc := ⟨.hbm, 95, rfl⟩
abbrev main_v73 : Ref sig .tc := ⟨.hbm, 96, rfl⟩
abbrev main_v74 : Ref sig .tc := ⟨.hbm, 97, rfl⟩
abbrev main_v75 : Ref sig .tc := ⟨.hbm, 98, rfl⟩
abbrev main_v76 : Ref sig .tc := ⟨.hbm, 99, rfl⟩
abbrev main_v77 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_call0_v0 : Ref sig .tc := ⟨.hbm, 113, rfl⟩
abbrev main_call0_v1 : Ref sig .tc := ⟨.hbm, 114, rfl⟩
abbrev main_call0_cst : Ref sig .tc := ⟨.hbm, 115, rfl⟩
abbrev main_call0_v2 : Ref sig .tc := ⟨.hbm, 116, rfl⟩
abbrev main_call0_v3 : Ref sig .tc := ⟨.hbm, 117, rfl⟩
abbrev main_call0_cst_0 : Ref sig .tc := ⟨.hbm, 118, rfl⟩
abbrev main_call0_v4 : Ref sig .tc := ⟨.hbm, 119, rfl⟩
abbrev main_call0_v5 : Ref sig .tc := ⟨.hbm, 120, rfl⟩
abbrev main_v90 : Ref sig .tc := ⟨.hbm, 121, rfl⟩
abbrev main_v91 : Ref sig .tc := ⟨.hbm, 122, rfl⟩
abbrev main_v92 : Ref sig .tc := ⟨.hbm, 123, rfl⟩
abbrev main_v93 : Ref sig .tc := ⟨.hbm, 124, rfl⟩

abbrev nD : Nat := 1
abbrev τ : Topo := Topo.v7x

variable {F : FTy → Type} [FloatOps F]
-- ==== Proof.SguRun.lean ====
/- One grid point of the gMLP gating's kernel: the body's run, for the points that only fill a slice of the two scratch arrays
   and for the points that also mix the slices and store the output block. -/
module

public import proofs.«01_k».proof.Proof.Gen.SguIdeal.Frame
public import proofs.«01_k».proof.Proof.Gen.SguIdeal.Skeleton
public import Idealize.ShloMosaic.Lib.Pipeline.FrameBody
public import Idealize.ShloMosaic.Lib.Pipeline.ValueKit
public import Idealize.ShloMosaic.Lib.WritesUnit
public import Idealize.ShloMosaic.Lib.VecWindow
public import Idealize.ShloMosaic.Lib.Ring
public import Idealize.ShloMosaic.Lib.Tactic
public import Idealize.ShloMosaic.Lib.WordCmp

@[expose] public section

set_option maxRecDepth 16384

noncomputable section

namespace Cert.SguIdeal.Own

open Cert.SguIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

/-- What a scratch array of four slices holds after the slice `j` is overwritten with `p`. -/
def Filled {e : EltTy} (j : ℕ) (old : S4x1024x512.Idx → Elt F e) (p : S1x1024x512.Idx → Elt F e) (new : S4x1024x512.Idx → Elt F e) : Prop :=
  ∀ y : S4x1024x512.Idx, new y = if (y 0).val = j then p (ix3 0 (y 1) (y 2)) else old y

/-- One store of a slice of a four-slice scratch array fills that slice and leaves the others. -/
theorem filled_of_store {κ : Kind} {e : EltTy} (M : Memref sig κ .vmem S4x1024x512 e) (h : M.IsWhole) (old : S4x1024x512.Idx → Elt F e)
    {off : Fin 3 → ℕ} (j : ℕ) (hoff : off = ![j, 0, 0]) (inb : ∀ a, off a + S1x1024x512.size a ≤ S4x1024x512.size a)
    (p : S1x1024x512.Idx → Elt F e) (L : List (View.Piece (Elt F) S4x1024x512 e))
    (hL : L = [⟨Rect.unit (s := S4x1024x512) off S1x1024x512.size inb, p⟩]) :
    Filled j old p (M.view.read (Elt F) (M.view.writes (Elt F) (h.unread old) L)) := by
  subst hL
  intro y
  rw [View.read_writes_cons_unit M.view (h.unread old) inb p [] y hoff, View.writes_nil, h.read_unread]
  have l0 : (y 0).val < 4 := (y 0).isLt
  have l1 : (y 1).val < 1024 := (y 1).isLt
  have l2 : (y 2).val < 512 := (y 2).isLt
  by_cases hj : (y 0).val = j
  · rw [if_pos hj, dif_pos (by intro a; fin_cases a <;> simp [S1x1024x512] <;> omega)]
    congr 1
    funext a
    apply Fin.ext
    rw [Rect.unitLocal_val]
    fin_cases a <;> simp <;> omega
  · rw [if_neg hj, dif_neg]
    intro hh
    have := hh 0
    simp [S1x1024x512] at this
    omega

/-- A load of a whole buffer reads its contents. -/
theorem readAll {κ : Kind} {s : Shape} {e : EltTy} {M : Memref sig κ .vmem s e} (h : M.IsWhole) (x : s.Idx → Elt F e)
    {off : Fin s.rank → ℕ} (inb : ∀ a, off a + s.size a ≤ s.size a) :
    M.view.readAt (Elt F) (Rect.unit off s.size inb).toLoadRect (h.unread x) = x :=
  (View.readAt_full M.view (h.unread x) inb).trans (h.read_unread x)

set_option maxHeartbeats 4000000 in
/-- The body at a point before the last of its row of the grid: it overwrites slice `j` of the two scratch arrays, with the gelu of
    the token block times one block of the gate half's weights and with the gated product of the other half, and leaves the rest. -/
theorem run_fill (c : Dev nD) (i : grid0.Coords) (arg2 : Memref sig .tc .vmem S1024x2048 .bf16) (harg2 : arg2.IsWhole) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x128x128 .f32) (harg8 : arg8.IsWhole) (arg9 : Memref sig .tc .vmem S128x8 .f32) (harg9 : arg9.IsWhole) (arg10 : Memref sig .tc .vmem S1024x2048 .bf16) (harg10 : arg10.IsWhole) (arg11 : Memref sig .tc .vmem S4x1024x512 .f32) (harg11 : arg11.IsWhole) (arg12 : Memref sig .tc .vmem S4x1024x512 .bf16) (harg12 : arg12.IsWhole) (hc : ¬ k0_cond1 i = 1#1) (j : ℕ) (hoff : k0_off1 i = ![j, 0, 0])
    (x0 : Vec F S1024x2048 .bf16) (x1 : Vec F S1x512x2048 .bf16) (x2 : Vec F S1x512x2048 .bf16) (x3 : Vec F S1x512x2048 .bf16) (x4 : Vec F S1x2048 .f32) (x5 : Vec F S1x2048 .f32) (x6 : Vec F S8x128x128 .f32) (x7 : Vec F S128x8 .f32) (vs : Vec F S4x1024x512 .f32) (ps : Vec F S4x1024x512 .bf16) (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare vs ∗ owns (c : Thread nD τ) arg12 fullShare ps
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ iprop(∃ VS PS, ⌜Filled j vs (k0_pay130 x0 x2) VS⌝ ∗ ⌜Filled j ps (k0_pay1 x0 (k0_pay131 x0 x1) x3) PS⌝ ∗ owns (c : Thread nD τ) arg11 fullShare VS ∗ owns (c : Thread nD τ) arg12 fullShare PS ∗ (∃ d, owns (c : Thread nD τ) arg10 fullShare d))) -∗ K ⟨⟩))
          ⊢ wp frame (wpE (defs₀ (F := F)) Variants.none c none) E (cc0_proj_sgu i arg2 harg2 arg3 harg3 arg4 harg4 arg5 harg5 arg6 harg6 arg7 harg7 arg8 harg8 arg9 harg9 arg10 harg10 arg11 harg11 arg12 harg12) K := by
    simp only [cc0_proj_sgu_eq_skeleton]; unfold cc0_proj_sgu_skel
    simp only [k0_part48_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1
    sl_exec (disch := first | sl_exact hc)
    sl_step
    obtain ⟨W, hW, hWr⟩ : ∃ W : List (View.Piece (Elt F) S4x1024x512 .f32) → Vec F S4x1024x512 .f32,
        (∀ L, arg11.view.writes (Elt F) (harg11.unread vs) L = harg11.unread (W L))
          ∧ ∀ L, W L = arg11.view.read (Elt F) (arg11.view.writes (Elt F) (harg11.unread vs) L) :=
      ⟨fun L => arg11.view.read (Elt F) (arg11.view.writes (Elt F) (harg11.unread vs) L), fun L => (harg11.unread_read _).symm, fun _ => rfl⟩
    obtain ⟨W', hW', hWr'⟩ : ∃ W : List (View.Piece (Elt F) S4x1024x512 .bf16) → Vec F S4x1024x512 .bf16,
        (∀ L, arg12.view.writes (Elt F) (harg12.unread ps) L = harg12.unread (W L))
          ∧ ∀ L, W L = arg12.view.read (Elt F) (arg12.view.writes (Elt F) (harg12.unread ps) L) :=
      ⟨fun L => arg12.view.read (Elt F) (arg12.view.writes (Elt F) (harg12.unread ps) L), fun L => (harg12.unread_read _).symm, fun _ => rfl⟩
    rw [hW, hW']
    generalize hVS : W _ = VS
    generalize hPS : W' _ = PS
    have eV : Filled j vs (k0_pay130 x0 x2) VS := by
      rw [← hVS, hWr]
      refine filled_of_store arg11 harg11 vs j hoff (k0_off1_inb i) _ _ ?_
      congr 2
      exact congr (congrArg k0_pay130 (readAll harg2 x0 inb_S1024x2048_S1024x2048_0_0)) (readAll harg4 x2 inb_S1x512x2048_S1x512x2048_0_0_0)
    have eP : Filled j ps (k0_pay1 x0 (k0_pay131 x0 x1) x3) PS := by
      rw [← hPS, hWr']
      refine filled_of_store arg12 harg12 ps j hoff (k0_off1_inb i) _ _ ?_
      congr 2
      have a0 := readAll harg2 x0 inb_S1024x2048_S1024x2048_0_0
      have a1 := readAll harg3 x1 inb_S1x512x2048_S1x512x2048_0_0_0
      have a3 := readAll harg5 x3 inb_S1x512x2048_S1x512x2048_0_0_0
      have a01 := congr (congrArg k0_pay131 a0) a1
      exact congr (congr (congrArg k0_pay1 a0) a01) a3
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists VS, PS
    isplitr; · ipureintro; exact eV
    isplitr; · ipureintro; exact eP
    isplitl [HS0]
    · iexists _; isplitr; · ipureintro; exact harg11.read_unread _
      iexact HS0
    isplitl [HS1]
    · iexists _; isplitr; · ipureintro; exact harg12.read_unread _
      iexact HS1
    iexists _, _; isplitr; swap; · iexact H8
    ipureintro; rfl

set_option maxHeartbeats 4000000 in
/-- The body at the last point of a row of the grid: it overwrites slice `j` of the two scratch arrays, and stores the output block
    tile by tile, a list of tiles which the two scratch arrays and the normalisation's and the mixing's parameters determine. -/
def run_mix (c : Dev nD) (i : grid0.Coords) (arg2 : Memref sig .tc .vmem S1024x2048 .bf16) (harg2 : arg2.IsWhole) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x128x128 .f32) (harg8 : arg8.IsWhole) (arg9 : Memref sig .tc .vmem S128x8 .f32) (harg9 : arg9.IsWhole) (arg10 : Memref sig .tc .vmem S1024x2048 .bf16) (harg10 : arg10.IsWhole) (arg11 : Memref sig .tc .vmem S4x1024x512 .f32) (harg11 : arg11.IsWhole) (arg12 : Memref sig .tc .vmem S4x1024x512 .bf16) (harg12 : arg12.IsWhole) (hc : k0_cond1 i = 1#1) (j : ℕ) (hoff : k0_off1 i = ![j, 0, 0])
    (x0 : Vec F S1024x2048 .bf16) (x1 : Vec F S1x512x2048 .bf16) (x2 : Vec F S1x512x2048 .bf16) (x3 : Vec F S1x512x2048 .bf16) (x4 : Vec F S1x2048 .f32) (x5 : Vec F S1x2048 .f32) (x6 : Vec F S8x128x128 .f32) (x7 : Vec F S128x8 .f32) :
    { L : Vec F S4x1024x512 .f32 → Vec F S4x1024x512 .bf16 → List (View.Piece (Elt F) S1024x2048 .bf16) //
      ∀ (vs : Vec F S4x1024x512 .f32) (ps : Vec F S4x1024x512 .bf16) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ (∃ d, owns (c : Thread nD τ) arg10 fullShare d) ∗ owns (c : Thread nD τ) arg11 fullShare vs ∗ owns (c : Thread nD τ) arg12 fullShare ps
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ iprop(∃ VS PS, ⌜Filled j vs (k0_pay130 x0 x2) VS⌝ ∗ ⌜Filled j ps (k0_pay1 x0 (k0_pay131 x0 x1) x3) PS⌝ ∗ owns (c : Thread nD τ) arg11 fullShare VS ∗ owns (c : Thread nD τ) arg12 fullShare PS ∗ (∃ f, arg10.view.loc (c : Thread nD τ) ↦[arg10.view.set]{fullShare} arg10.view.writes (Elt F) f (L VS PS)))) -∗ K ⟨⟩))
          ⊢ wp frame (wpE (defs₀ (F := F)) Variants.none c none) E (cc0_proj_sgu i arg2 harg2 arg3 harg3 arg4 harg4 arg5 harg5 arg6 harg6 arg7 harg7 arg8 harg8 arg9 harg9 arg10 harg10 arg11 harg11 arg12 harg12) K } := by
  refine ⟨?L, fun vs ps E K => ?run⟩
  case run =>
    simp only [cc0_proj_sgu_eq_skeleton]; unfold cc0_proj_sgu_skel
    simp only [k0_part48_eq_skeleton, k0_part47_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton, k0_part35_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg11.eq_unread hfs0; obtain rfl := harg12.eq_unread hfs1
    set_option sl_exec.stopBefore "k0_part47_skel" in sl_exec (disch := first | sl_exact hc)
    obtain ⟨W, hW, hWr⟩ : ∃ W : List (View.Piece (Elt F) S4x1024x512 .f32) → Vec F S4x1024x512 .f32,
        (∀ L, arg11.view.writes (Elt F) (harg11.unread vs) L = harg11.unread (W L))
          ∧ ∀ L, W L = arg11.view.read (Elt F) (arg11.view.writes (Elt F) (harg11.unread vs) L) :=
      ⟨fun L => arg11.view.read (Elt F) (arg11.view.writes (Elt F) (harg11.unread vs) L), fun L => (harg11.unread_read _).symm, fun _ => rfl⟩
    obtain ⟨W', hW', hWr'⟩ : ∃ W : List (View.Piece (Elt F) S4x1024x512 .bf16) → Vec F S4x1024x512 .bf16,
        (∀ L, arg12.view.writes (Elt F) (harg12.unread ps) L = harg12.unread (W L))
          ∧ ∀ L, W L = arg12.view.read (Elt F) (arg12.view.writes (Elt F) (harg12.unread ps) L) :=
      ⟨fun L => arg12.view.read (Elt F) (arg12.view.writes (Elt F) (harg12.unread ps) L), fun L => (harg12.unread_read _).symm, fun _ => rfl⟩
    rw [hW, hW']
    generalize hVS : W _ = VS
    generalize hPS : W' _ = PS
    have eV : Filled j vs (k0_pay130 x0 x2) VS := by
      rw [← hVS, hWr]
      refine filled_of_store arg11 harg11 vs j hoff (k0_off1_inb i) _ _ ?_
      congr 2
      exact congr (congrArg k0_pay130 (readAll harg2 x0 inb_S1024x2048_S1024x2048_0_0)) (readAll harg4 x2 inb_S1x512x2048_S1x512x2048_0_0_0)
    have eP : Filled j ps (k0_pay1 x0 (k0_pay131 x0 x1) x3) PS := by
      rw [← hPS, hWr']
      refine filled_of_store arg12 harg12 ps j hoff (k0_off1_inb i) _ _ ?_
      congr 2
      have a0 := readAll harg2 x0 inb_S1024x2048_S1024x2048_0_0
      have a1 := readAll harg3 x1 inb_S1x512x2048_S1x512x2048_0_0_0
      have a3 := readAll harg5 x3 inb_S1x512x2048_S1x512x2048_0_0_0
      have a01 := congr (congrArg k0_pay131 a0) a1
      exact congr (congr (congrArg k0_pay1 a0) a01) a3

    sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    iexists VS, PS
    isplitr; · ipureintro; exact eV
    isplitr; · ipureintro; exact eP
    isplitl [HS0]
    · iexists _; isplitr; · ipureintro; exact harg11.read_unread _
      iexact HS0
    isplitl [HS1]
    · iexists _; isplitr; · ipureintro; exact harg12.read_unread _
      iexact HS1
    iexists _; iexact H8

end Cert.SguIdeal.Own
-- ==== Proof.SguFrame.lean ====
/- The gMLP gating's kernel over its whole grid: what the two scratch arrays hold between the points, what each point leaves in the
   output's buffer, and the run of the program. -/
module

public import proofs.«01_k».proof.Proof.SguRun
public import Idealize.ShloMosaic.Lib.Claim
public import Idealize.ShloMosaic.Lib.Pipeline.DatRel
public import Idealize.ShloMosaic.Lib.Pipeline.ArrRel

@[expose] public section

set_option maxRecDepth 16384

noncomputable section

namespace Cert.SguIdeal.Own

open Cert.SguIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points of the grid -/

/-- The output is stored at the last of each row's four points. -/
theorem hcond : ∀ t : Fin cfg0.N, k0_cond1 (grid0.coords t) = 1#1 ↔ t.val % 4 = 3 :=
  (fun t => by
    have ht : t.val < 64 := Nat.lt_of_lt_of_eq t.isLt N_0
    have e1 : (grid0.coords t 1).val = t.val / 1 % 4 := Pipeline.Grid.coords_val t 1 (by decide) rfl
    simp only [k0_cond1, e1]
    word_cmp
   : ∀ t : Fin grid0.N, k0_cond1 (grid0.coords t) = 1#1 ↔ t.val % 4 = 3)

/-- The slice a point fills is its place in its row. -/
theorem hoff : ∀ t : Fin cfg0.N, k0_off1 (grid0.coords t) = ![t.val % 4, 0, 0] :=
  (fun t => by
    have e1 : (grid0.coords t 1).val = t.val / 1 % 4 := Pipeline.Grid.coords_val t 1 (by decide) rfl
    have hn : (Scalar.indexCast (BitVec.ofNat 32 (t.val / 1 % 4)) : Index).toNat = t.val % 4 := by
      have h4 : t.val % 4 < 4 := Nat.mod_lt _ (by decide)
      rw [Nat.div_one]
      generalize t.val % 4 = k at h4
      interval_cases k <;> rfl
    simp only [k0_off1, e1, hn]
   : ∀ t : Fin grid0.N, k0_off1 (grid0.coords t) = ![t.val % 4, 0, 0])

/-- A point by its number. -/
def pt (u : ℕ) : Fin cfg0.N := ⟨u % 64, by rw [show cfg0.N = 64 from N_0]; exact Nat.mod_lt _ (by decide)⟩

theorem pt_val (t : Fin cfg0.N) : pt t.val = t :=
  Fin.ext (Nat.mod_eq_of_lt (lt_of_lt_of_eq t.isLt (show cfg0.N = 64 from N_0)))

/-! ## The buffers of a point -/

/-- Window 0's buffer at a point. -/
abbrev ms0_0 (t : Fin cfg0.N) : Memref sig .tc .vmem S1024x2048 .bf16 := win0_0.stage (cfg0.slots t 0)
abbrev hs0_0 (t : Fin cfg0.N) : (ms0_0 t).IsWhole := hstage0_0 ((cfg0.slots t 0).cast nbuf0_0)
/-- Window 1's buffer at a point. -/
abbrev ms0_1 (t : Fin cfg0.N) : Memref sig .tc .vmem S1x512x2048 .bf16 := win0_1.stage (cfg0.slots t 1)
abbrev hs0_1 (t : Fin cfg0.N) : (ms0_1 t).IsWhole := hstage0_1 ((cfg0.slots t 1).cast nbuf0_1)
/-- Window 2's buffer at a point. -/
abbrev ms0_2 (t : Fin cfg0.N) : Memref sig .tc .vmem S1x512x2048 .bf16 := win0_2.stage (cfg0.slots t 2)
abbrev hs0_2 (t : Fin cfg0.N) : (ms0_2 t).IsWhole := hstage0_2 ((cfg0.slots t 2).cast nbuf0_2)
/-- Window 3's buffer at a point. -/
abbrev ms0_3 (t : Fin cfg0.N) : Memref sig .tc .vmem S1x512x2048 .bf16 := win0_3.stage (cfg0.slots t 3)
abbrev hs0_3 (t : Fin cfg0.N) : (ms0_3 t).IsWhole := hstage0_3 ((cfg0.slots t 3).cast nbuf0_3)
/-- Window 4's buffer at a point. -/
abbrev ms0_4 (t : Fin cfg0.N) : Memref sig .tc .vmem S1x2048 .f32 := win0_4.stage (cfg0.slots t 4)
abbrev hs0_4 (t : Fin cfg0.N) : (ms0_4 t).IsWhole := hstage0_4 ((cfg0.slots t 4).cast nbuf0_4)
/-- Window 5's buffer at a point. -/
abbrev ms0_5 (t : Fin cfg0.N) : Memref sig .tc .vmem S1x2048 .f32 := win0_5.stage (cfg0.slots t 5)
abbrev hs0_5 (t : Fin cfg0.N) : (ms0_5 t).IsWhole := hstage0_5 ((cfg0.slots t 5).cast nbuf0_5)
/-- Window 6's buffer at a point. -/
abbrev ms0_6 (t : Fin cfg0.N) : Memref sig .tc .vmem S8x128x128 .f32 := win0_6.stage (cfg0.slots t 6)
abbrev hs0_6 (t : Fin cfg0.N) : (ms0_6 t).IsWhole := hstage0_6 ((cfg0.slots t 6).cast nbuf0_6)
/-- Window 7's buffer at a point. -/
abbrev ms0_7 (t : Fin cfg0.N) : Memref sig .tc .vmem S128x8 .f32 := win0_7.stage (cfg0.slots t 7)
abbrev hs0_7 (t : Fin cfg0.N) : (ms0_7 t).IsWhole := hstage0_7 ((cfg0.slots t 7).cast nbuf0_7)
/-- Window 8's buffer at a point. -/
abbrev ms0_8 (t : Fin cfg0.N) : Memref sig .tc .vmem S1024x2048 .bf16 := win0_8.stage (cfg0.slots t 8)
abbrev hs0_8 (t : Fin cfg0.N) : (ms0_8 t).IsWhole := hstage0_8 ((cfg0.slots t 8).cast nbuf0_8)
/-- The two scratch arrays. -/
abbrev scM0_0 : Memref sig .tc .vmem S4x1024x512 .f32 := Memref.whole cc0_scratch0
abbrev scM0_1 : Memref sig .tc .vmem S4x1024x512 .bf16 := Memref.whole cc0_scratch1

/-- The two scratch arrays and the generator register, at any contents. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d)) ∗ (∃ r, prngReg c r)) := by
  unfold Pipeline.ΦA; rw [scopedRest0_eq]; simp only [scM0_0, scM0_1, owns_whole]; try rfl

/-! ## What the scratch arrays hold -/

/-- The slice point `u` stores into the first scratch array: the gelu of the gate half's columns. -/
def vsl (c : Dev nD) (u : ℕ) : Vec F S1x1024x512 .f32 := k0_pay130 (iblk m c 0 (pt u)) (iblk m c 2 (pt u))

/-- The slice point `u` stores into the second scratch array: the other half's gelu times the silu of the branch gate. -/
def psl (c : Dev nD) (u : ℕ) : Vec F S1x1024x512 .bf16 :=
  k0_pay1 (iblk m c 0 (pt u)) (k0_pay131 (iblk m c 0 (pt u)) (iblk m c 1 (pt u))) (iblk m c 3 (pt u))

/-- Before point `n` the scratch arrays hold the slices of the row's points so far, and anything in the other slices. -/
def Known (c : Dev nD) (n : ℕ) (vs : S4x1024x512.Idx → Elt F .f32) (ps : S4x1024x512.Idx → Elt F .bf16) : Prop :=
  ∀ y : S4x1024x512.Idx, (y 0).val < n % 4 →
    vs y = vsl m c (4 * (n / 4) + (y 0).val) (ix3 0 (y 1) (y 2)) ∧ ps y = psl m c (4 * (n / 4) + (y 0).val) (ix3 0 (y 1) (y 2))

/-- The first scratch array, all four slices of the row of point `n`. -/
def VST (c : Dev nD) (n : ℕ) : Vec F S4x1024x512 .f32 := fun y => vsl m c (4 * (n / 4) + (y 0).val) (ix3 0 (y 1) (y 2))

/-- The second scratch array, all four slices of the row of point `n`. -/
def PST (c : Dev nD) (n : ℕ) : Vec F S4x1024x512 .bf16 := fun y => psl m c (4 * (n / 4) + (y 0).val) (ix3 0 (y 1) (y 2))

/-- A point's store makes one more slice known. -/
theorem known_succ (c : Dev nD) (n : ℕ) {vs VS : S4x1024x512.Idx → Elt F .f32} {ps PS : S4x1024x512.Idx → Elt F .bf16}
    (h : Known m c n vs ps) (hV : Filled (n % 4) vs (vsl m c n) VS) (hP : Filled (n % 4) ps (psl m c n) PS) :
    Known m c (n + 1) VS PS := by
  intro y hy
  by_cases h3 : n % 4 = 3
  · exfalso
    have : (n + 1) % 4 = 0 := by omega
    omega
  · have e4 : (n + 1) % 4 = n % 4 + 1 := by omega
    have ed : (n + 1) / 4 = n / 4 := by omega
    rw [hV y, hP y, ed]
    by_cases hj : (y 0).val = n % 4
    · rw [if_pos hj, if_pos hj, hj, show 4 * (n / 4) + n % 4 = n from by omega]
      exact ⟨rfl, rfl⟩
    · rw [if_neg hj, if_neg hj]
      exact h y (by omega)

/-- The last point's store of a row completes the two arrays. -/
theorem known_all (c : Dev nD) (n : ℕ) {vs VS : S4x1024x512.Idx → Elt F .f32} {ps PS : S4x1024x512.Idx → Elt F .bf16} (h3 : n % 4 = 3)
    (h : Known m c n vs ps) (hV : Filled (n % 4) vs (vsl m c n) VS) (hP : Filled (n % 4) ps (psl m c n) PS) :
    VS = VST m c n ∧ PS = PST m c n := by
  have key : ∀ y, VS y = VST m c n y ∧ PS y = PST m c n y := by
    intro y
    have l0 : (y 0).val < 4 := (y 0).isLt
    rw [hV y, hP y]
    unfold VST PST
    by_cases hj : (y 0).val = n % 4
    · rw [if_pos hj, if_pos hj, hj, show 4 * (n / 4) + n % 4 = n from by omega]
      exact ⟨rfl, rfl⟩
    · rw [if_neg hj, if_neg hj]
      exact h y (by omega)
  exact ⟨funext fun y => (key y).1, funext fun y => (key y).2⟩

/-! ## The proof data -/

/-- The one window of which a point leaves contents that only some points determine: the output. -/
def fgt : Fin 9 → Bool := fun w => w.val == 8

/-- The arrays as the region finds them, each input's buffer at its block after every point, and between the points the scratch
    arrays at contents of which the row's slices so far are known. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, h⟩ => Pipeline.Dat.unnamed (cfg := cfg0) ⟨8, h⟩ t
  Φ t := iprop(∃ vs ps, ⌜Known m c t.val vs ps⌝ ∗ owns (c : Thread nD τ) scM0_0 fullShare vs ∗ owns (c : Thread nD τ) scM0_1 fullShare ps ∗ (∃ r, prngReg c r))
  q w := Pipeline.shareOf spec0 w
  owed _ := 0

theorem A_eq (c : Dev nD) (w) : (dats m 0 c).A w = V m c (Pipeline.arrRef spec0 w) := by dsimp only [dats]
theorem after0_0 (c : Dev nD) (t) : (dats m 0 c).after 0 t = iblk m c 0 t := by dsimp only [dats]
theorem before0_0 (c : Dev nD) (t) (d) : (dats m 0 c).before 0 t d = iblk m c 0 t :=
  before0_0_of m (dats m 0 c) (A_eq m c 0) (after0_0 m c) t d
theorem after0_1 (c : Dev nD) (t) : (dats m 0 c).after 1 t = iblk m c 1 t := by dsimp only [dats]
theorem before0_1 (c : Dev nD) (t) (d) : (dats m 0 c).before 1 t d = iblk m c 1 t :=
  before0_1_of m (dats m 0 c) (A_eq m c 1) (after0_1 m c) t d
theorem after0_2 (c : Dev nD) (t) : (dats m 0 c).after 2 t = iblk m c 2 t := by dsimp only [dats]
theorem before0_2 (c : Dev nD) (t) (d) : (dats m 0 c).before 2 t d = iblk m c 2 t :=
  before0_2_of m (dats m 0 c) (A_eq m c 2) (after0_2 m c) t d
theorem after0_3 (c : Dev nD) (t) : (dats m 0 c).after 3 t = iblk m c 3 t := by dsimp only [dats]
theorem before0_3 (c : Dev nD) (t) (d) : (dats m 0 c).before 3 t d = iblk m c 3 t :=
  before0_3_of m (dats m 0 c) (A_eq m c 3) (after0_3 m c) t d
theorem after0_4 (c : Dev nD) (t) : (dats m 0 c).after 4 t = iblk m c 4 t := by dsimp only [dats]
theorem before0_4 (c : Dev nD) (t) (d) : (dats m 0 c).before 4 t d = iblk m c 4 t :=
  before0_4_of m (dats m 0 c) (A_eq m c 4) (after0_4 m c) t d
theorem after0_5 (c : Dev nD) (t) : (dats m 0 c).after 5 t = iblk m c 5 t := by dsimp only [dats]
theorem before0_5 (c : Dev nD) (t) (d) : (dats m 0 c).before 5 t d = iblk m c 5 t :=
  before0_5_of m (dats m 0 c) (A_eq m c 5) (after0_5 m c) t d
theorem after0_6 (c : Dev nD) (t) : (dats m 0 c).after 6 t = iblk m c 6 t := by dsimp only [dats]
theorem before0_6 (c : Dev nD) (t) (d) : (dats m 0 c).before 6 t d = iblk m c 6 t :=
  before0_6_of m (dats m 0 c) (A_eq m c 6) (after0_6 m c) t d
theorem after0_7 (c : Dev nD) (t) : (dats m 0 c).after 7 t = iblk m c 7 t := by dsimp only [dats]
theorem before0_7 (c : Dev nD) (t) (d) : (dats m 0 c).before 7 t d = iblk m c 7 t :=
  before0_7_of m (dats m 0 c) (A_eq m c 7) (after0_7 m c) t d

/-- The tiles the last point of a row stores into the output's buffer. -/
def tiles (c : Dev nD) (t : Fin cfg0.N) (h3 : t.val % 4 = 3) : List (View.Piece (Elt F) S1024x2048 .bf16) :=
  (run_mix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _)
    ((hcond t).mpr h3) (t.val % 4) (hoff t) (iblk m c 0 t) (iblk m c 1 t) (iblk m c 2 t) (iblk m c 3 t) (iblk m c 4 t) (iblk m c 5 t) (iblk m c 6 t) (iblk m c 7 t)).1 (VST m c t.val) (PST m c t.val)

/-- The tiles cover the output's block. -/
theorem tiles_cover (c : Dev nD) (t : Fin cfg0.N) (h3 : t.val % 4 = 3) (y : S1024x2048.Idx) :
    ∃ P ∈ tiles m c t h3, y ∈ P.1.set :=
  View.cover_of_tiledL (tiles m c t h3) S128x256.size (by sl_kernel_rfl) y

/-- What a point leaves in the output's buffer: at the last of a row the tiles, at the others anything. -/
def Rl (c : Dev nD) : (w : Fin cfg0.W) → (t : Fin cfg0.N) → ((cfg0.win w).block.Idx → Elt F (cfg0.win w).elt) → Prop
  | ⟨8, _⟩, t, X => ∀ h3 : t.val % 4 = 3, X = View.canon (tiles m c t h3)
  | _, _, _ => True

/-! ## The body's obligation -/

/-- What the body takes at a point, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ Y, ⌜((dats m 0 c).toRRel fgt (Rl m c)).Finds 8 t Y⌝ ∗ owns (c : Thread nD τ) (ms0_8 t) fullShare Y))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ (∃ X, ⌜Rl m c 8 t X⌝ ∗ owns (c : Thread nD τ) (ms0_8 t) fullShare X))

set_option maxHeartbeats 2400000 in
/-- The body at any point: the inputs' buffers hold their blocks and the scratch arrays the slices so far; the point's run adds its
    slices, and at the last point of a row leaves the tiles in the output's buffer. -/
theorem sound_body (c : Dev nD) (t : Fin cfg0.N) :
    bodyPre m c t ⊢ wp frame (wpE (defs₀ (F := F)) Variants.none c none) Set.univ (bodyAt0 t) (fun _ => bodyPost m c t) := by
  have eqv : k0_pay130 (iblk m c 0 t) (iblk m c 2 t) = vsl m c t.val := by unfold vsl; rw [pt_val]
  have eqp : k0_pay1 (iblk m c 0 t) (k0_pay131 (iblk m c 0 t) (iblk m c 1 t)) (iblk m c 3 t) = psl m c t.val := by unfold psl; rw [pt_val]
  unfold bodyPre bodyPost bodyAt0
  simp only [before0_0, before0_1, before0_2, before0_3, before0_4, before0_5, before0_6, before0_7,
    after0_0, after0_1, after0_2, after0_3, after0_4, after0_5, after0_6, after0_7]
  rw [show (dats m 0 c).owesAt () t.succ = (dats m 0 c).owesAt () t.castSucc from rfl]
  rw [show (dats m 0 c).Φ t.castSucc = iprop(∃ vs ps, ⌜Known m c t.val vs ps⌝ ∗ owns (c : Thread nD τ) scM0_0 fullShare vs ∗ owns (c : Thread nD τ) scM0_1 fullShare ps ∗ (∃ r, prngReg c r)) from rfl]
  rw [show (dats m 0 c).Φ t.succ = iprop(∃ vs ps, ⌜Known m c (t.val + 1) vs ps⌝ ∗ owns (c : Thread nD τ) scM0_0 fullShare vs ∗ owns (c : Thread nD τ) scM0_1 fullShare ps ∗ (∃ r, prngReg c r)) from rfl]
  by_cases h3 : t.val % 4 = 3
  · iintro ⟨⟨%vs, %ps, %hK, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩⟩
    iapply ((run_mix c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) ((hcond t).mpr h3) (t.val % 4) (hoff t) (iblk m c 0 t) (iblk m c 1 t) (iblk m c 2 t) (iblk m c 3 t) (iblk m c 4 t) (iblk m c 5 t) (iblk m c 6 t) (iblk m c 7 t)).2 vs ps Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, %VS, %PS, %eV, %eP, HS0, HS1, %f8, H8⟩
    rw [eqv] at eV; rw [eqp] at eP
    isplitl [HS0 HS1 Hg]
    · iexists VS, PS
      isplitr
      · ipureintro; exact known_succ m c t.val hK eV eP
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexists (View.canon (tiles m c t h3))
    isplitr
    · ipureintro; exact fun _ => rfl
    unfold owns
    iexists _
    isplitr; swap; · iexact H8
    ipureintro
    obtain ⟨rfl, rfl⟩ := known_all m c t.val h3 hK eV eP
    exact View.read_writes_eq_canon _ _ _ (tiles_cover m c t h3)
  · iintro ⟨⟨%vs, %ps, %hK, HS0, HS1, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, -, H8⟩⟩
    iapply (run_fill c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) (fun h => h3 ((hcond t).mp h)) (t.val % 4) (hoff t) (iblk m c 0 t) (iblk m c 1 t) (iblk m c 2 t) (iblk m c 3 t) (iblk m c 4 t) (iblk m c 5 t) (iblk m c 6 t) (iblk m c 7 t) vs ps Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    isplitl [HS0]; · iexact HS0
    isplitl [HS1]; · iexact HS1
    iintro ⟨H0, H1, H2, H3, H4, H5, H6, H7, %VS, %PS, %eV, %eP, HS0, HS1, H8⟩
    rw [eqv] at eV; rw [eqp] at eP
    isplitl [HS0 HS1 Hg]
    · iexists VS, PS
      isplitr
      · ipureintro; exact known_succ m c t.val hK eV eP
      isplitl [HS0]; · iexact HS0
      isplitl [HS1]; · iexact HS1
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    icases H8 with ⟨%X, H8⟩
    iexists X
    isplitr
    · ipureintro; exact fun h => absurd h h3
    iexact H8

/-- The body table's row at a point is the body. -/
theorem defs₀_row (t : Fin cfg0.N) :
    defs₀ (F := F) .tc cfg0.body (cfg0.bodyArgs t (cfg0.slots t)) = bodyAt0 t := by
  unfold defs₀; rw [Defs.onTc_tc]

/-- The obligation of the whole grid. -/
theorem body_obligation (c : Dev nD) :
    Pipeline.BodyObligationRel (dats (F := F) m 0 c) (defs₀ (F := F)) Variants.none () Set.univ fgt (Rl m c) := fun t => by
  rw [bigSep_W0, bigSep_W0, defs₀_row]
  exact triple_restated (sound_body m c t) rfl .rfl fun _ => .rfl

/-! ## The run -/

/-- The proof data with the output held to what each point leaves. -/
abbrev rdat (c : Dev nD) := (dats m 0 c).toRRel fgt (Rl m c)

set_option backward.isDefEq.respectTransparency.types false in
/-- Every run ends, with every array at contents the proof data allow and every semaphore at zero. -/
theorem run_quiescent : θ_run defs (onTc (τ := τ) (main (F := F))) (s₀ m ρ)
    (fun r => (Pipeline.RDat.FramePost (cfgs 0) (fun c => rdat m c) (V m)) r ∧ r.2.sem = fun _ => 0) :=
  Pipeline.RDat.θ_run_frame_track_shared (Q' := _) cfgs (0 : Fin 1) launch₀0 defs₀ Variants.none (fun c => rdat m c) m ρ main
    (hbody := fun c => (body_obligation m c).toRRel) (hq := fun _ _ _ => rfl) (howed := fun _ _ => rfl) (V := V m)
    (hmain := hmain m Variants.none) (hA := A_eq m)
    (hin := fun c => by
      rw [PhiA0_eq]
      show _ ⊢ iprop(∃ vs ps, ⌜Known m c 0 vs ps⌝ ∗ owns (c : Thread nD τ) scM0_0 fullShare vs ∗ owns (c : Thread nD τ) scM0_1 fullShare ps ∗ (∃ r, prngReg c r))
      iintro ⟨⟨⟨%vs, HS0⟩, ⟨%ps, HS1⟩⟩, Hg⟩
      iexists vs, ps
      isplitr
      · ipureintro; intro y hy; exact absurd hy (Nat.not_lt_zero _)
      isplitl [HS0]; · iexact HS0
      isplitl [HS1]; · iexact HS1
      iexact Hg)
    (hout := fun c => by
      rw [PhiA0_eq]
      show iprop(∃ vs ps, ⌜Known m c (Fin.last cfg0.N).val vs ps⌝ ∗ owns (c : Thread nD τ) scM0_0 fullShare vs ∗ owns (c : Thread nD τ) scM0_1 fullShare ps ∗ (∃ r, prngReg c r)) ⊢ _
      iintro ⟨%vs, %ps, -, HS0, HS1, Hg⟩
      isplitl [HS0 HS1]
      · isplitl [HS0]
        · iexists vs; iexact HS0
        iexists ps; iexact HS1
      iexact Hg)

/-- The argument arrays of a final state. -/
theorem args_of {r : PUnit × MemSt nD τ sig (Elt F)} (h : Pipeline.RDat.FramePost (cfgs 0) (fun c => rdat m c) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨(Pipeline.RDat.FramePost.arr_in h c 0 rfl).trans ((A_eq m c 0).trans (V_main_arg0 m c)),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    (Pipeline.RDat.FramePost.arr_in h c 6 rfl).trans ((A_eq m c 6).trans (V_main_arg4 m c)),
    ((h c).2 main_arg5 (Pipeline.mem_restRefs_of main_arg5 (by decide) (by decide))).trans (V_main_arg5 m c)⟩

/-- Every run ends, keeps the argument arrays and leaves every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => args_of m h.1 c, h.2⟩) (run_quiescent m ρ)

end Cert.SguIdeal.Own

end
-- ==== Proof.SguHost.lean ====
/- The gMLP gating's operands: each block as a read of its array, and the arrays the host lines prepare. -/
module

public import proofs.«01_k».proof.Proof.Gen.SguIdeal.Frame
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.SguIdeal.RefValue

open Cert.SguIdeal Cert.SguIdeal.Gen

variable (m : (ℓ : Loc nD τ sig) → Buf (Elt Ideal) ℓ)

/-- Where each window stands at a grid point. -/
theorem idx : ∀ t : Fin cfg0.N, win0_0.index t = ![t.val / 4, 0] ∧ win0_1.index t = ![0, 35 + t.val % 4, 0] ∧ win0_2.index t = ![0, 39 + t.val % 4, 0]
    ∧ win0_3.index t = ![0, 43 + t.val % 4, 0] ∧ win0_4.index t = ![0, 0] ∧ win0_5.index t = ![0, 0] ∧ win0_6.index t = ![0, 0, 0]
    ∧ win0_7.index t = ![0, 0] ∧ win0_8.index t = ![t.val / 4, 0] ∧ t.val < 64 :=
  (by decide +kernel : ∀ t : Fin grid0.N, _)

/-- A block of the tokens read at an index. -/
theorem rd0 (c : Dev nD) (t : Fin cfg0.N) (a : Fin 1024) (b : Fin 2048) (i : Fin 16384) (h : i.val = t.val / 4 * 1024 + a.val) :
    iblk m c 0 t (ix2 a b) = m ((c : Thread nD τ).loc main_arg0) (ix2 i b) := by
  blk_ext! [iblk, V, idx t]

/-- A block of first-half columns of the prepared weights, read at an index, is those weights where the block stands. -/
theorem rd1 (c : Dev nD) (t : Fin cfg0.N) (n : Fin 512) (x : Fin 2048) (j : Fin 24064) (h : j.val = (35 + t.val % 4) * 512 + n.val) :
    iblk m c 1 t (ix3 0 n x) = V m c main_v14 (ix3 0 j x) := by
  blk_simp [iblk, idx t]
  refine congrArg (V m c main_v14) (funext fun a => Fin.ext ?_)
  match a with
  | ⟨0, _⟩ => blk_simp [idx t]; try rfl
  | ⟨1, _⟩ => blk_simp [idx t]; exact h.symm
  | ⟨2, _⟩ => blk_simp [idx t]; try rfl

/-- A block of second-half columns of the prepared weights, read at an index, is those weights where the block stands. -/
theorem rd2 (c : Dev nD) (t : Fin cfg0.N) (n : Fin 512) (x : Fin 2048) (j : Fin 24064) (h : j.val = (39 + t.val % 4) * 512 + n.val) :
    iblk m c 2 t (ix3 0 n x) = V m c main_v14 (ix3 0 j x) := by
  blk_simp [iblk, idx t]
  refine congrArg (V m c main_v14) (funext fun a => Fin.ext ?_)
  match a with
  | ⟨0, _⟩ => blk_simp [idx t]; try rfl
  | ⟨1, _⟩ => blk_simp [idx t]; exact h.symm
  | ⟨2, _⟩ => blk_simp [idx t]; try rfl

/-- A block of branch-gate columns of the prepared weights, read at an index, is those weights where the block stands. -/
theorem rd3 (c : Dev nD) (t : Fin cfg0.N) (n : Fin 512) (x : Fin 2048) (j : Fin 24064) (h : j.val = (43 + t.val % 4) * 512 + n.val) :
    iblk m c 3 t (ix3 0 n x) = V m c main_v14 (ix3 0 j x) := by
  blk_simp [iblk, idx t]
  refine congrArg (V m c main_v14) (funext fun a => Fin.ext ?_)
  match a with
  | ⟨0, _⟩ => blk_simp [idx t]; try rfl
  | ⟨1, _⟩ => blk_simp [idx t]; exact h.symm
  | ⟨2, _⟩ => blk_simp [idx t]; try rfl

/-- The host lines leave this parameter as a row. -/
theorem V_main_v15 (c : Dev nD) : V m c main_v15 = (shapeCast S1x2048 (m ((c : Thread nD τ).loc main_arg2)) shapeCasts_S2048_S1x2048 : FVec Ideal S1x2048 .f32) := by
  unfold V
  simp only [hostOps0, hostOps0_1, hostOps0_2, List.flatten_cons, List.flatten_nil, List.append_nil, List.cons_append, List.nil_append]
  after_results
  rfl

/-- The parameter's row, read at an index. -/
theorem rd4 (c : Dev nD) (t : Fin cfg0.N) (x : Fin 2048) :
    iblk m c 4 t (ix2 0 x) = m ((c : Thread nD τ).loc main_arg2) (ix1 x) := by
  have e : iblk m c 4 t (ix2 0 x) = V m c main_v15 (ix2 0 x) := by
    blk_simp [iblk, idx t]
    refine congrArg (V m c main_v15) (funext fun a => Fin.ext ?_)
    match a with
    | ⟨0, _⟩ => blk_simp [idx t]; try rfl
    | ⟨1, _⟩ => blk_simp [idx t]; try rfl
  rw [e, V_main_v15]
  generalize m ((c : Thread nD τ).loc main_arg2) = g
  pointwise []

/-- The host lines leave this parameter as a row. -/
theorem V_main_v16 (c : Dev nD) : V m c main_v16 = (shapeCast S1x2048 (m ((c : Thread nD τ).loc main_arg3)) shapeCasts_S2048_S1x2048 : FVec Ideal S1x2048 .f32) := by
  unfold V
  simp only [hostOps0, hostOps0_1, hostOps0_2, List.flatten_cons, List.flatten_nil, List.append_nil, List.cons_append, List.nil_append]
  after_results
  rfl

/-- The parameter's row, read at an index. -/
theorem rd5 (c : Dev nD) (t : Fin cfg0.N) (x : Fin 2048) :
    iblk m c 5 t (ix2 0 x) = m ((c : Thread nD τ).loc main_arg3) (ix1 x) := by
  have e : iblk m c 5 t (ix2 0 x) = V m c main_v16 (ix2 0 x) := by
    blk_simp [iblk, idx t]
    refine congrArg (V m c main_v16) (funext fun a => Fin.ext ?_)
    match a with
    | ⟨0, _⟩ => blk_simp [idx t]; try rfl
    | ⟨1, _⟩ => blk_simp [idx t]; try rfl
  rw [e, V_main_v16]
  generalize m ((c : Thread nD τ).loc main_arg3) = g
  pointwise []

/-- The mixing weights, read at an index. -/
theorem rd6 (c : Dev nD) (t : Fin cfg0.N) (p : Fin 8) (q r : Fin 128) :
    iblk m c 6 t (ix3 p q r) = m ((c : Thread nD τ).loc main_arg4) (ix3 p q r) := by
  blk_ext! [iblk, V, idx t]

/-- The host lines leave the mixing bias transposed. -/
theorem V_main_v17 (c : Dev nD) : V m c main_v17 = (transpose S128x8 [1, 0] (m ((c : Thread nD τ).loc main_arg5)) transposes_S8x128_S128x8_1_0 : FVec Ideal S128x8 .f32) := by
  unfold V
  simp only [hostOps0, hostOps0_1, hostOps0_2, List.flatten_cons, List.flatten_nil, List.append_nil, List.cons_append, List.nil_append]
  after_results

/-- The mixing bias, read at an index. -/
theorem rd7 (c : Dev nD) (t : Fin cfg0.N) (p : Fin 128) (q : Fin 8) :
    iblk m c 7 t (ix2 p q) = m ((c : Thread nD τ).loc main_arg5) (ix2 q p) := by
  have e : iblk m c 7 t (ix2 p q) = V m c main_v17 (ix2 p q) := by
    blk_simp [iblk, idx t]
    refine congrArg (V m c main_v17) (funext fun a => Fin.ext ?_)
    match a with
    | ⟨0, _⟩ => blk_simp [idx t]; try rfl
    | ⟨1, _⟩ => blk_simp [idx t]; try rfl
  rw [e, V_main_v17]
  generalize m ((c : Thread nD τ).loc main_arg5) = g
  pointwise []

/-- The gate and selection columns of the transposed weights, regrouped by head group and padded to 128 columns a group. -/
def GTm (x : FVec Ideal S2x2048x23600 .f32) : FVec Ideal S2x512x2048 .f32 :=
  let v0 := transpose S2x23600x2048 [0, 2, 1] x transposes_S2x2048x23600_S2x23600x2048_0_2_1
  let v1 : FVec Ideal S2x48x2048 .f32 := extractStridedSlice S2x48x2048 ![0, 11264, 0] v0 slices_S2x23600x2048_S2x48x2048_0_11264_0
  let v2 : FVec Ideal S2x3x4x4x2048 .f32 := shapeCast _ v1 shapeCasts_S2x48x2048_S2x3x4x4x2048
  let v3 : FVec Ideal S2x4x3x4x2048 .f32 := transpose S2x4x3x4x2048 [0, 2, 1, 3, 4] v2 transposes_S2x3x4x4x2048_S2x4x3x4x2048_0_2_1_3_4
  let v4 : FVec Ideal S2x4x12x2048 .f32 := shapeCast _ v3 shapeCasts_S2x4x3x4x2048_S2x4x12x2048
  let v5 : FVec Ideal S2x4x128x2048 .f32 := pad S2x4x128x2048 ![0, 0, 0, 0] ![0, 0, 116, 0] ![0, 0, 0, 0] v4 (sitofp (F := Ideal) FTy.f32 (constantI S_ 32 0#32)) pads_S2x4x12x2048_S2x4x128x2048_000_000_01160_000 h_S_
  shapeCast _ v5 shapeCasts_S2x4x128x2048_S2x512x2048

/-- The prepared weights, transposed, with their columns in the packed order. -/
def WTm (x : FVec Ideal S2x2048x23600 .f32) : FVec Ideal S2x24064x2048 .bf16 :=
  let v0 := transpose S2x23600x2048 [0, 2, 1] x transposes_S2x2048x23600_S2x23600x2048_0_2_1
  let v7 : FVec Ideal S2x2048x2048 .f32 := extractStridedSlice S2x2048x2048 ![0, 6144, 0] v0 slices_S2x23600x2048_S2x2048x2048_0_6144_0
  let v8 : FVec Ideal S2x2048x2048 .f32 := broadcastInDim S2x2048x2048 ![] bcast_S_S2x2048x2048 (constant S_ FTy.f32 1040356334#32)
  let v9 : FVec Ideal S2x2048x2048 .f32 := mulf v7 v8
  let v10 : FVec Ideal S2x12288x2048 .f32 := extractStridedSlice S2x12288x2048 ![0, 11312, 0] v0 slices_S2x23600x2048_S2x12288x2048_0_11312_0
  let v11 : FVec Ideal S2x3072x2048 .f32 := extractStridedSlice S2x3072x2048 ![0, 8192, 0] v0 slices_S2x23600x2048_S2x3072x2048_0_8192_0
  let v12 : FVec Ideal S2x6144x2048 .f32 := extractStridedSlice S2x6144x2048 ![0, 0, 0] v0 slices_S2x23600x2048_S2x6144x2048_0_0_0
  truncf .bf16 (concatenate S2x24064x2048 1 [⟨S2x2048x2048, v9⟩, ⟨S2x12288x2048, v10⟩, ⟨S2x3072x2048, v11⟩, ⟨S2x512x2048, GTm x⟩, ⟨S2x6144x2048, v12⟩] concatenates_S2x2048x2048_S2x12288x2048_S2x3072x2048_S2x512x2048_S2x6144x2048_S2x24064x2048_d1) bitsLt_bf16_f32

/-- The host lines leave these weights for the call. -/
theorem V_main_v14 (c : Dev nD) : V m c main_v14 = WTm (m ((c : Thread nD τ).loc main_arg1)) := by
  unfold V
  simp only [hostOps0, hostOps0_1, hostOps0_2, List.flatten_cons, List.flatten_nil, List.append_nil, List.cons_append, List.nil_append]
  after_results
  rfl

/-- The integer zero as a number. -/
theorem zero_i : (FloatOps.sitofp (F := Ideal) FTy.f32 0#32 : EReal) = 0 := by
  show (((0#32 : BitVec 32).toInt : ℝ) : EReal) = 0
  simp

/-- The grouped gate columns of the prepared weights, read at an index. -/
theorem gt (x : FVec Ideal S2x2048x23600 .f32) (j : Fin 512) (k : Fin 2048) : GTm x (ix3 0 j k) =
    if h : j.val / 128 < 4 ∧ j.val % 128 < 12 then x (ix3 0 k (⟨11264 + (j.val % 128 / 4 * 16 + j.val / 128 * 4 + j.val % 128 % 4), by omega⟩ : Fin 23600)) else (0 : EReal) := by
  pointwise [GTm]
  split
  · rfl
  · exact zero_i

/-- The prepared weights, read at an index: one case for each group of columns. -/
theorem wt (x : FVec Ideal S2x2048x23600 .f32) (j : Fin 24064) (k : Fin 2048) : WTm x (ix3 0 j k) = (
    if h : j.val < 2048 then x (ix3 0 k (⟨6144 + j.val, by omega⟩ : Fin 23600)) * Ideal.ofBits FTy.f32 1040356334#32
    else if h : j.val - 2048 < 12288 then x (ix3 0 k (⟨11312 + (j.val - 2048), by omega⟩ : Fin 23600))
    else if h : j.val - 2048 - 12288 < 3072 then x (ix3 0 k (⟨8192 + (j.val - 2048 - 12288), by omega⟩ : Fin 23600))
    else if h : j.val - 2048 - 12288 - 3072 < 512 then GTm x (ix3 0 (⟨j.val - 2048 - 12288 - 3072, h⟩ : Fin 512) k)
    else x (ix3 0 k (⟨j.val - 2048 - 12288 - 3072 - 512, by omega⟩ : Fin 23600)) : EReal) := by
  pointwise [WTm]

/-- The columns the gating reads: the prepared weights' last 6144 rows are the original's first columns. -/
theorem wtail (x : FVec Ideal S2x2048x23600 .f32) (j : Fin 24064) (k : Fin 2048) (q : Fin 23600) (hj : j.val = 17920 + q.val) :
    WTm x (ix3 0 j k) = x (ix3 0 k q) := by
  rw [wt, dif_neg (by omega), dif_neg (by omega), dif_neg (by omega), dif_neg (by omega)]
  exact congrArg (fun q => x (ix3 0 k q)) (Fin.ext (by dsimp only; omega))

end Cert.SguIdeal.RefValue

end
-- ==== Proof.SguRefPoint.lean ====
/- The gMLP gating's reference, index by index, over the extended reals. -/
module

public import proofs.«01_k».proof.Proof.Gen.SguRefIdeal.Read
public import Idealize.ShloMosaic.Lib.Pipeline.ValueKit
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.SguRefIdeal.Point

open Cert.SguRefIdeal Cert.SguRefIdeal.Read

variable (h : FVec Ideal S16384x2048 .bf16) (x : FVec Ideal S2x2048x23600 .f32) (lg lb : FVec Ideal S2048 .f32) (ws : FVec Ideal S8x128x128 .f32)
  (bs : FVec Ideal S8x128 .f32)

/-- The projection at a token and a column. -/
def Z (i : Fin 16384) (n : Fin 23600) : EReal := ∑ k : Fin 2048, h (ix2 i k) * x (ix3 0 k n)

/-- The tanh form of gelu. -/
def gelu (z : EReal) : EReal :=
  z * (Ideal.ofBits FTy.f32 0x3F000000#32 * (1 + Ideal.tanh (Ideal.ofBits FTy.f32 0x3F4C422A#32 * (z + Ideal.ofBits FTy.f32 0x3D372713#32 * (z * (z * z))))))

/-- The gate half: gelu of the second group of columns. -/
def VV (i : Fin 16384) (k : Fin 2048) : EReal := gelu (Z h x i ⟨2048 + k.val, by omega⟩)

/-- The reference's product. -/
theorem z4 (b : Fin 8) (l : Fin 2048) (n : Fin 23600) : val_main_v4 (F := Ideal) h x (ix3 b l n) = Z h x (⟨b.val * 2048 + l.val, by omega⟩ : Fin 16384) n := by
  pointwise [val_main_v0, val_main_v1, val_main_v2, val_main_v3, val_main_v4, Z]

/-- The logistic gate. -/
def silu (z : EReal) : EReal := z * Ideal.div 1 (1 + Ideal.exp (-z))

/-- The mean of a row. -/
def MU (f : Fin 2048 → EReal) : EReal := (∑ k, f k) * Ideal.ofBits FTy.f32 0x3A000000#32

/-- The reciprocal deviation of a row. -/
def RS (f : Fin 2048 → EReal) : EReal :=
  Ideal.rsqrt ((∑ k, (f k - MU f) * (f k - MU f)) * Ideal.ofBits FTy.f32 0x3A000000#32 + Ideal.ofBits FTy.f32 0x358637BD#32)

/-- Dividing by the row's length is multiplying by its reciprocal, which is a power of two. -/
theorem div_len (z : EReal) : Ideal.div z (Ideal.ofBits FTy.f32 1157627904#32) = z * Ideal.ofBits FTy.f32 0x3A000000#32 := by
  have e1 : Ideal.ofBits FTy.f32 1157627904#32 = ((2048 : ℝ) : EReal) := by
    simp [Ideal.ofBits, Ideal.ieee, -EReal.coe_mul]; norm_num
  have e2 : Ideal.ofBits FTy.f32 0x3A000000#32 = ((1 / 2048 : ℝ) : EReal) := by
    simp [Ideal.ofBits, Ideal.ieee, -EReal.coe_mul]; norm_num
  rw [e1, e2, Ideal.div_coe (by norm_num)]

/-- The first half's gelu. -/
theorem v20 (b : Fin 8) (l k : Fin 2048) : val_main_v20 (F := Ideal) h x (ix3 b l k) = gelu (Z h x (⟨b.val * 2048 + l.val, by omega⟩ : Fin 16384) ⟨k.val, by omega⟩) := by
  pointwise [val_main_v5, val_main_v8, val_main_v9, val_main_v10, val_main_v11, val_main_v12, val_main_v13, val_main_v14, val_main_v15, val_main_v16, val_main_v17, val_main_v18, val_main_v19, val_main_v20, val_main_cst, val_main_cst_0, val_main_cst_1, val_main_cst_2]
  simp only [z4]
  unfold gelu
  rw [mul_comm (Z _ _ _ _ * Z _ _ _ _) (Z _ _ _ _)]

/-- The second half's gelu. -/
theorem v33 (b : Fin 8) (l k : Fin 2048) : val_main_v33 (F := Ideal) h x (ix3 b l k) = VV h x (⟨b.val * 2048 + l.val, by omega⟩ : Fin 16384) k := by
  pointwise [val_main_v6, val_main_v21, val_main_v22, val_main_v23, val_main_v24, val_main_v25, val_main_v26, val_main_v27, val_main_v28, val_main_v29, val_main_v30, val_main_v31, val_main_v32, val_main_v33, val_main_cst_3, val_main_cst_4, val_main_cst_5, val_main_cst_6]
  simp only [z4]
  unfold VV gelu
  rw [mul_comm (Z _ _ _ _ * Z _ _ _ _) (Z _ _ _ _)]

/-- The branch gate's silu. -/
theorem v72 (b : Fin 8) (l k : Fin 2048) : val_main_v72 (F := Ideal) h x (ix3 b l k) = silu (Z h x (⟨b.val * 2048 + l.val, by omega⟩ : Fin 16384) ⟨4096 + k.val, by omega⟩) := by
  pointwise [val_main_v7, val_main_call2_v0, val_main_call2_v1, val_main_call2_v2, val_main_call2_v3, val_main_call2_v4, val_main_call2_v5, val_main_call2_cst, val_main_call2_cst_0, val_main_v72]
  simp only [z4]
  unfold silu
  rfl

/-- The mean. -/
theorem v37 (b : Fin 8) (l : Fin 2048) : val_main_v37 (F := Ideal) h x (ix3 b l 0) = MU (VV h x (⟨b.val * 2048 + l.val, by omega⟩ : Fin 16384)) := by
  pointwise [val_main_v34, val_main_v35, val_main_v36, val_main_v37, val_main_cst_7, val_main_cst_8]
  simp only [v33, div_len]
  rfl

/-- The reciprocal deviation. -/
theorem v49 (b : Fin 8) (l : Fin 2048) : val_main_v49 (F := Ideal) h x (ix3 b l 0) = RS (VV h x (⟨b.val * 2048 + l.val, by omega⟩ : Fin 16384)) := by
  pointwise [val_main_v38, val_main_v39, val_main_v40, val_main_v41, val_main_v42, val_main_v43, val_main_v44, val_main_v47, val_main_v48, val_main_v49, val_main_cst_9, val_main_cst_10, val_main_cst_11]
  simp only [v33, v37, div_len]
  rfl

/-- A normalised row. -/
def nrm (f : Fin 2048 → EReal) (k : Fin 2048) : EReal := (f k - MU f) * RS f * lg (ix1 k) + lb (ix1 k)

/-- The normalised gate half. -/
theorem v57 (b : Fin 8) (l k : Fin 2048) : val_main_v57 (F := Ideal) h x lg lb (ix3 b l k) = nrm lg lb (VV h x (⟨b.val * 2048 + l.val, by omega⟩ : Fin 16384)) k := by
  pointwise [val_main_v45, val_main_v46, val_main_v50, val_main_v51, val_main_v52, val_main_v53, val_main_v54, val_main_v55, val_main_v56, val_main_v57]
  simp only [v33, v37, v49]
  rfl

/-- The mixing weights, causal. -/
theorem v62 (p : Fin 8) (q r : Fin 128) : val_main_v62 (F := Ideal) ws (ix3 p q r) = if r.val ≤ q.val then ws (ix3 p q r) else (0 : EReal) := by
  pointwise [val_main_call0_v0, val_main_call0_c, val_main_call0_v1, val_main_call0_v2, val_main_call0_v3, val_main_call0_v4, val_main_call0_c_0, val_main_call0_v5, val_main_v59, val_main_c, val_main_v60, val_main_v61, val_main_cst_12, val_main_call1_v0, val_main_call1_v1, val_main_call1_v2, val_main_v62]
  have e0 : (id (constant S_ FTy.f32 0#32) ix0 : Ideal .f32) = (0 : EReal) := by
    show Ideal.ofBits FTy.f32 0#32 = 0
    simp [Ideal.ofBits, Ideal.ieee]
  have hc : IntOp.cmpi CmpIPredicate.sge (IntOp.addi (BitVec.ofNat 32 q.val) 0#32) (BitVec.ofNat 32 r.val) = 1#1 ↔ r.val ≤ q.val := by
    rw [show IntOp.addi (BitVec.ofNat 32 q.val) 0#32 = BitVec.ofNat 32 q.val from BitVec.add_zero _]
    word_cmp
  rw [e0]
  by_cases hr : r.val ≤ q.val
  · rw [if_pos hr, hc.mpr hr]; rfl
  · have hz : IntOp.cmpi CmpIPredicate.sge (IntOp.addi (BitVec.ofNat 32 q.val) 0#32) (BitVec.ofNat 32 r.val) = 0#1 := by
      rcases BitVec.eq_zero_or_eq_one (IntOp.cmpi CmpIPredicate.sge (IntOp.addi (BitVec.ofNat 32 q.val) 0#32) (BitVec.ofNat 32 r.val)) with e | e
      · exact e
      · exact absurd (hc.mp e) hr
    rw [if_neg hr, hz]; rfl

/-- The reference's result at an index. -/
theorem v75 (i : Fin 16384) (k : Fin 2048) : val_main_v75 (F := Ideal) h x lg lb ws bs (ix2 i k)
    = gelu (Z h x i ⟨k.val, by omega⟩)
      * ((∑ s : Fin 128, nrm lg lb (VV h x (⟨i.val / 128 * 128 + s.val, by omega⟩ : Fin 16384)) k
          * (if s.val ≤ i.val % 128 then ws (ix3 (⟨k.val / 256, by omega⟩ : Fin 8) (⟨i.val % 128, by omega⟩ : Fin 128) s) else 0))
        + bs (ix2 (⟨k.val / 256, by omega⟩ : Fin 8) (⟨i.val % 128, by omega⟩ : Fin 128)))
      * silu (Z h x i ⟨4096 + k.val, by omega⟩) := by
  pointwise [val_main_v58, val_main_v63, val_main_v64, val_main_v65, val_main_v66, val_main_v67, val_main_v68, val_main_v69, val_main_v70, val_main_v71, val_main_v73, val_main_v74, val_main_v75]
  simp only [v20, v57, v62, v72]
  have ei : (⟨i.val / 2048 * 2048 + i.val % 2048, by omega⟩ : Fin 16384) = i := Fin.ext (by dsimp only; omega)
  have eq : (⟨i.val % 2048 % 128, by omega⟩ : Fin 128) = ⟨i.val % 128, by omega⟩ := Fin.ext (by dsimp only; omega)
  have es : ∀ s : Fin 128, (⟨i.val / 2048 * 2048 + (i.val % 2048 / 128 * 128 + s.val), by omega⟩ : Fin 16384) = ⟨i.val / 128 * 128 + s.val, by omega⟩ :=
    fun s => Fin.ext (by dsimp only; omega)
  have en : i.val % 2048 % 128 = i.val % 128 := by omega
  simp only [ei, eq, es, en]

end Cert.SguRefIdeal.Point

end
-- ==== Proof.SguSlice.lean ====
/- The gMLP gating's slices: what each point stores into the two scratch arrays is the reference's gated halves there. -/
module

public import proofs.«01_k».proof.Proof.SguFrame
public import proofs.«01_k».proof.Proof.SguHost
public import proofs.«01_k».proof.Proof.SguRefPoint

@[expose] public section

set_option maxRecDepth 16384

noncomputable section

open Idealize.ShloMosaic Idealize.ShloMosaic.TcCoe Idealize.SL.Sem
open Idealize.ShloMosaic.Pipeline (Dat)

namespace Cert.SguIdeal.RefValue

open Cert.SguIdeal Cert.SguIdeal.Gen Cert.SguIdeal.Own
open Cert.SguRefIdeal.Point (Z gelu silu VV)

variable (m : (ℓ : Loc nD τ sig) → Buf (Elt Ideal) ℓ)

/-- The tokens. -/
abbrev HH (c : Dev nD) : FVec Ideal Cert.SguRefIdeal.S16384x2048 .bf16 := m ((c : Thread nD τ).loc main_arg0)
/-- The weights. -/
abbrev XX (c : Dev nD) : FVec Ideal Cert.SguRefIdeal.S2x2048x23600 .f32 := m ((c : Thread nD τ).loc main_arg1)

/-- A point's slice of the gate half. -/
theorem gate_slice (c : Dev nD) (t : Fin cfg0.N) (r : Fin 1024) (n : Fin 512) (i : Fin 16384) (k : Fin 2048)
    (hi : i.val = t.val / 4 * 1024 + r.val) (hk : k.val = t.val % 4 * 512 + n.val) :
    k0_pay130 (iblk m c 0 t) (iblk m c 2 t) (ix3 0 r n) = VV (HH m c) (XX m c) i k := by
  have e0 := fun b => rd0 m c t r b i hi
  have e2 := fun x => ((rd2 m c t n x (⟨(39 + t.val % 4) * 512 + n.val, by omega⟩ : Fin 24064) rfl).trans (congrFun (V_main_v14 m c) _)).trans
    (wtail _ _ x (⟨2048 + k.val, by omega⟩ : Fin 23600) (by dsimp only; omega))
  pointwise [k0_pay130]
  simp only [e0, e2]
  unfold VV gelu Z
  rfl

/-- A point's slice of the other half times the branch gate. -/
theorem prod_slice (c : Dev nD) (t : Fin cfg0.N) (r : Fin 1024) (n : Fin 512) (i : Fin 16384) (k : Fin 2048)
    (hi : i.val = t.val / 4 * 1024 + r.val) (hk : k.val = t.val % 4 * 512 + n.val) :
    k0_pay1 (iblk m c 0 t) (k0_pay131 (iblk m c 0 t) (iblk m c 1 t)) (iblk m c 3 t) (ix3 0 r n)
      = gelu (Z (HH m c) (XX m c) i ⟨k.val, by omega⟩) * silu (Z (HH m c) (XX m c) i ⟨4096 + k.val, by omega⟩) := by
  have e0 := fun b => rd0 m c t r b i hi
  have e1 := fun x => ((rd1 m c t n x (⟨(35 + t.val % 4) * 512 + n.val, by omega⟩ : Fin 24064) rfl).trans (congrFun (V_main_v14 m c) _)).trans
    (wtail _ _ x (⟨k.val, by omega⟩ : Fin 23600) (by dsimp only; omega))
  have e3 := fun x => ((rd3 m c t n x (⟨(43 + t.val % 4) * 512 + n.val, by omega⟩ : Fin 24064) rfl).trans (congrFun (V_main_v14 m c) _)).trans
    (wtail _ _ x (⟨4096 + k.val, by omega⟩ : Fin 23600) (by dsimp only; omega))
  pointwise [k0_pay1, k0_pay131]
  simp only [Ideal.logistic, e0, e1, e3]
  unfold silu gelu Z
  rfl

/-- The first scratch array at the last of a row's points. -/
theorem vst_at (c : Dev nD) (t : Fin cfg0.N) (j : Fin 4) (r : Fin 1024) (n : Fin 512) (i : Fin 16384) (k : Fin 2048)
    (hi : i.val = t.val / 4 * 1024 + r.val) (hk : k.val = j.val * 512 + n.val) :
    VST m c t.val (ix3 j r n) = VV (HH m c) (XX m c) i k := by
  have ht : t.val < 64 := lt_of_lt_of_eq t.isLt (show cfg0.N = 64 from N_0)
  have hp : (pt (4 * (t.val / 4) + j.val)).val = 4 * (t.val / 4) + j.val := Nat.mod_eq_of_lt (by omega)
  exact gate_slice m c (pt (4 * (t.val / 4) + j.val)) r n i k (by rw [hp]; omega) (by rw [hp]; omega)

/-- The second scratch array at the last of a row's points. -/
theorem pst_at (c : Dev nD) (t : Fin cfg0.N) (j : Fin 4) (r : Fin 1024) (n : Fin 512) (i : Fin 16384) (k : Fin 2048)
    (hi : i.val = t.val / 4 * 1024 + r.val) (hk : k.val = j.val * 512 + n.val) :
    PST m c t.val (ix3 j r n) = gelu (Z (HH m c) (XX m c) i ⟨k.val, by omega⟩) * silu (Z (HH m c) (XX m c) i ⟨4096 + k.val, by omega⟩) := by
  have ht : t.val < 64 := lt_of_lt_of_eq t.isLt (show cfg0.N = 64 from N_0)
  have hp : (pt (4 * (t.val / 4) + j.val)).val = 4 * (t.val / 4) + j.val := Nat.mod_eq_of_lt (by omega)
  exact prod_slice m c (pt (4 * (t.val / 4) + j.val)) r n i k (by rw [hp]; omega) (by rw [hp]; omega)

end Cert.SguIdeal.RefValue

end
-- ==== Proof.SguTile.lean ====
/- One tile of the gMLP gating's output: its value at an index, of the two scratch arrays, the mean and the reciprocal deviation of each
   row, and the parameters; and so the whole block's value from its 64 tiles. -/
module

public import proofs.«01_k».proof.Proof.SguRun
public import Idealize.ShloMosaic.Lib.Pipeline.ValueKit
public import Idealize.ShloMosaic.Lib.WholeRead

@[expose] public section

set_option maxRecDepth 16384

noncomputable section

namespace Cert.SguIdeal.Own

open Cert.SguIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

/-- The mask keeps the entries on and below the diagonal. -/
theorem sel_ge (a s : Fin 128) (u v : EReal) :
    Scalar.select (IntOp.cmpi CmpIPredicate.sge (BitVec.ofNat 32 a.val) (BitVec.ofNat 32 s.val)) u v = if s.val ≤ a.val then u else v := by
  have h : (IntOp.cmpi CmpIPredicate.sge (BitVec.ofNat 32 a.val) (BitVec.ofNat 32 s.val)) = 1#1 ↔ s.val ≤ a.val := by word_cmp
  exact if_congr h rfl rfl

/-- The chain of operations of a tile, at an index. -/
theorem tile_chain {R q : ℕ} (hR : R + 128 ≤ 1024) (hq : q < 8) (lv : Vec Ideal S1x128x256 .f32) (lp : Vec Ideal S1x128x256 .bf16)
    (l4 l5 : Vec Ideal S1x256 .f32) (lw : Vec Ideal S1x128x128 .f32) (b : FVec Ideal S128x8 .f32) (mu rs : FVec Ideal S1024x1 .f32)
    (h1 : S1024x1.Slices ![R, 0] S128x1) (h2 : S128x8.Slices ![0, q] S128x1) (a : Fin 128) (n : Fin 256) :
    (truncf .bf16 (mulf (extf .f32 (shapeCast S128x256 lp shapeCasts_S1x128x256_S128x256 : FVec Ideal S128x256 .bf16) bitsLt_bf16_f32)
      (addf (matmul dot_S128x128_S128x256_S128x256_1_0_0_1_n_n none
          (truncf .bf16 (select k0_pay7 (shapeCast S128x128 lw shapeCasts_S1x128x128_S128x128 : FVec Ideal S128x128 .f32)
            (broadcast S128x128 (Scalar.ofBits .f32 0x00000000#32 : Ideal .f32) : FVec Ideal S128x128 .f32)) bitsLt_bf16_f32 : FVec Ideal S128x128 .bf16)
          (truncf .bf16 (addf (mulf (mulf (subf (shapeCast S128x256 lv shapeCasts_S1x128x256_S128x256 : FVec Ideal S128x256 .f32)
              (broadcastTo S128x256 (extractStridedSlice S128x1 ![R, 0] mu h1 : FVec Ideal S128x1 .f32) broadcasts_S128x1_S128x256))
              (broadcastTo S128x256 (extractStridedSlice S128x1 ![R, 0] rs h1 : FVec Ideal S128x1 .f32) broadcasts_S128x1_S128x256))
              (broadcastTo S128x256 (shapeCast S1x256 l4 shapeCasts_S1x256_S1x256 : FVec Ideal S1x256 .f32) broadcasts_S1x256_S128x256))
              (broadcastTo S128x256 (shapeCast S1x256 l5 shapeCasts_S1x256_S1x256 : FVec Ideal S1x256 .f32) broadcasts_S1x256_S128x256)) bitsLt_bf16_f32 : FVec Ideal S128x256 .bf16)
          (constant S128x256 .f32 0x00000000#32))
        (broadcastTo S128x256 (extractStridedSlice S128x1 ![0, q] b h2 : FVec Ideal S128x1 .f32) broadcasts_S128x1_S128x256))) bitsLt_bf16_f32 : FVec Ideal S128x256 .bf16) (ix2 a n)
    = lp (ix3 0 a n) * ((∑ s : Fin 128, (if s.val ≤ a.val then lw (ix3 0 a s) else 0) *
        ((lv (ix3 0 s n) - mu (ix2 (⟨R + s.val, by omega⟩ : Fin 1024) 0)) * rs (ix2 (⟨R + s.val, by omega⟩ : Fin 1024) 0) * l4 (ix2 0 n) + l5 (ix2 0 n)))
        + b (ix2 a (⟨q, hq⟩ : Fin 8))) := by
  have e : ∀ (a s : Fin 128) (u v w : EReal), (Scalar.select (IntOp.cmpi CmpIPredicate.sge (BitVec.ofNat 32 a.val) (BitVec.ofNat 32 s.val)) (u * w) 0 : EReal)
      = (if s.val ≤ a.val then u else 0) * w := by
    intro a s u v w
    rw [sel_ge]; split <;> simp
  pointwise [k0_pay7]
  refine congrArg _ (congrArg (· + _) (Finset.sum_congr rfl fun s _ => ?_))
  exact e a s _ 0 _

/-- A load of a box of a whole three-axis buffer, at an index. -/
theorem read3 {A B C a b c : ℕ} {e : EltTy} {M : Memref sig .tc .vmem ⟨3, ![A, B, C]⟩ e} (h : M.IsWhole) (X : Shape.Idx ⟨3, ![A, B, C]⟩ → Elt Ideal e)
    {j r o : ℕ} (inb : ∀ d, (![j, r, o] : Fin 3 → ℕ) d + (![a, b, c] : Fin 3 → ℕ) d ≤ (⟨3, ![A, B, C]⟩ : Shape).size d)
    (x : Fin a) (y : Fin b) (z : Fin c) (p : Fin A) (q : Fin B) (w : Fin C)
    (hp : p.val = j + x.val) (hq : q.val = r + y.val) (hw : w.val = o + z.val) :
    View.readAt (Elt Ideal) M.view (Rect.unit (s := ⟨3, ![A, B, C]⟩) ![j, r, o] ![a, b, c] inb).toLoadRect (h.unread X) (ix3 x y z) = X (ix3 p q w) := by
  rw [h.readAt_unread]
  refine congrArg X (funext fun d => Fin.ext ?_)
  fin_cases d <;> simp [hp, hq, hw] <;> rfl

/-- A load of a box of a whole two-axis buffer, at an index. -/
theorem read2 {A B a b : ℕ} {e : EltTy} {M : Memref sig .tc .vmem ⟨2, ![A, B]⟩ e} (h : M.IsWhole) (X : Shape.Idx ⟨2, ![A, B]⟩ → Elt Ideal e)
    {j r : ℕ} (inb : ∀ d, (![j, r] : Fin 2 → ℕ) d + (![a, b] : Fin 2 → ℕ) d ≤ (⟨2, ![A, B]⟩ : Shape).size d)
    (x : Fin a) (y : Fin b) (p : Fin A) (q : Fin B) (hp : p.val = j + x.val) (hq : q.val = r + y.val) :
    View.readAt (Elt Ideal) M.view (Rect.unit (s := ⟨2, ![A, B]⟩) ![j, r] ![a, b] inb).toLoadRect (h.unread X) (ix2 x y) = X (ix2 p q) := by
  rw [h.readAt_unread]
  refine congrArg X (funext fun d => Fin.ext ?_)
  fin_cases d <;> simp [hp, hq] <;> rfl

/-- The mixed block at a row and a column, from the two scratch arrays: the branch gate's product times the bias plus the sum of the
    normalised rows of the chunk up to this one, each with its weight. -/
def mixAt (VS : Vec Ideal S4x1024x512 .f32) (PS : Vec Ideal S4x1024x512 .bf16) (mu rs : FVec Ideal S1024x1 .f32) (x4 x5 : Vec Ideal S1x2048 .f32)
    (x6 : Vec Ideal S8x128x128 .f32) (b : FVec Ideal S128x8 .f32) (r : Fin 1024) (k : Fin 2048) : EReal :=
  PS (ix3 (⟨k.val / 512, by omega⟩ : Fin 4) r (⟨k.val % 512, by omega⟩ : Fin 512))
    * ((∑ s : Fin 128, (if s.val ≤ r.val % 128 then x6 (ix3 (⟨k.val / 256, by omega⟩ : Fin 8) (⟨r.val % 128, by omega⟩ : Fin 128) s) else 0)
      * ((VS (ix3 (⟨k.val / 512, by omega⟩ : Fin 4) (⟨r.val / 128 * 128 + s.val, by omega⟩ : Fin 1024) (⟨k.val % 512, by omega⟩ : Fin 512))
          - mu (ix2 (⟨r.val / 128 * 128 + s.val, by omega⟩ : Fin 1024) 0)) * rs (ix2 (⟨r.val / 128 * 128 + s.val, by omega⟩ : Fin 1024) 0)
          * x4 (ix2 0 k) + x5 (ix2 0 k)))
      + b (ix2 (⟨r.val % 128, by omega⟩ : Fin 128) (⟨k.val / 256, by omega⟩ : Fin 8)))

/-- A tile's chain over its loads is the mixed block where the tile stands. `msk` is the mask, as the chain names it. -/
theorem tile_mix {arg6 : Memref sig .tc .vmem S1x2048 .f32} {harg6 : arg6.IsWhole} {arg7 : Memref sig .tc .vmem S1x2048 .f32} {harg7 : arg7.IsWhole}
    {arg8 : Memref sig .tc .vmem S8x128x128 .f32} {harg8 : arg8.IsWhole} {arg11 : Memref sig .tc .vmem S4x1024x512 .f32} {harg11 : arg11.IsWhole}
    {arg12 : Memref sig .tc .vmem S4x1024x512 .bf16} {harg12 : arg12.IsWhole} {R C J O q : ℕ}
    {VS : Vec Ideal S4x1024x512 .f32} {PS : Vec Ideal S4x1024x512 .bf16} {mu rs : FVec Ideal S1024x1 .f32} {x4 x5 : Vec Ideal S1x2048 .f32}
    {x6 : Vec Ideal S8x128x128 .f32} {b : FVec Ideal S128x8 .f32}
    {i12 : ∀ d, (![J, R, O] : Fin 3 → ℕ) d + S1x128x256.size d ≤ S4x1024x512.size d} {i11 : ∀ d, (![J, R, O] : Fin 3 → ℕ) d + S1x128x256.size d ≤ S4x1024x512.size d}
    {i8 : ∀ d, (![q, 0, 0] : Fin 3 → ℕ) d + S1x128x128.size d ≤ S8x128x128.size d}
    {i6 : ∀ d, (![0, C] : Fin 2 → ℕ) d + S1x256.size d ≤ S1x2048.size d} {i7 : ∀ d, (![0, C] : Fin 2 → ℕ) d + S1x256.size d ≤ S1x2048.size d}
    {h1 : S1024x1.Slices ![R, 0] S128x1} {h2 : S128x8.Slices ![0, q] S128x1} {x : S128x256.Idx} {y : S1024x2048.Idx}
    (h0 : (y 0).val = R + (x 0).val) (hc : (y 1).val = C + (x 1).val) (hR : R % 128 = 0 ∧ R + 128 ≤ 1024) (hq : q < 8)
    (hC : C = 256 * q ∧ C = 512 * J + O ∧ O + 256 ≤ 512) :
    (truncf .bf16 (mulf (extf .f32 (shapeCast S128x256 (View.readAt (Elt Ideal) arg12.view (Rect.unit (s := S4x1024x512) ![J, R, O] S1x128x256.size i12).toLoadRect (harg12.unread PS)) shapeCasts_S1x128x256_S128x256 : FVec Ideal S128x256 .bf16) bitsLt_bf16_f32)
      (addf (matmul dot_S128x128_S128x256_S128x256_1_0_0_1_n_n none
          (truncf .bf16 (select k0_pay7 (shapeCast S128x128 (View.readAt (Elt Ideal) arg8.view (Rect.unit (s := S8x128x128) ![q, 0, 0] S1x128x128.size i8).toLoadRect (harg8.unread x6)) shapeCasts_S1x128x128_S128x128 : FVec Ideal S128x128 .f32)
            (broadcast S128x128 (Scalar.ofBits .f32 0x00000000#32 : Ideal .f32) : FVec Ideal S128x128 .f32)) bitsLt_bf16_f32 : FVec Ideal S128x128 .bf16)
          (truncf .bf16 (addf (mulf (mulf (subf (shapeCast S128x256 (View.readAt (Elt Ideal) arg11.view (Rect.unit (s := S4x1024x512) ![J, R, O] S1x128x256.size i11).toLoadRect (harg11.unread VS)) shapeCasts_S1x128x256_S128x256 : FVec Ideal S128x256 .f32)
              (broadcastTo S128x256 (extractStridedSlice S128x1 ![R, 0] mu h1 : FVec Ideal S128x1 .f32) broadcasts_S128x1_S128x256))
              (broadcastTo S128x256 (extractStridedSlice S128x1 ![R, 0] rs h1 : FVec Ideal S128x1 .f32) broadcasts_S128x1_S128x256))
              (broadcastTo S128x256 (shapeCast S1x256 (View.readAt (Elt Ideal) arg6.view (Rect.unit (s := S1x2048) ![0, C] S1x256.size i6).toLoadRect (harg6.unread x4)) shapeCasts_S1x256_S1x256 : FVec Ideal S1x256 .f32) broadcasts_S1x256_S128x256))
              (broadcastTo S128x256 (shapeCast S1x256 (View.readAt (Elt Ideal) arg7.view (Rect.unit (s := S1x2048) ![0, C] S1x256.size i7).toLoadRect (harg7.unread x5)) shapeCasts_S1x256_S1x256 : FVec Ideal S1x256 .f32) broadcasts_S1x256_S128x256)) bitsLt_bf16_f32 : FVec Ideal S128x256 .bf16)
          (constant S128x256 .f32 0x00000000#32))
        (broadcastTo S128x256 (extractStridedSlice S128x1 ![0, q] b h2 : FVec Ideal S128x1 .f32) broadcasts_S128x1_S128x256))) bitsLt_bf16_f32 : FVec Ideal S128x256 .bf16) x
    = mixAt VS PS mu rs x4 x5 x6 b (y 0) (y 1) := by
  obtain ⟨a, n, rfl⟩ : ∃ (a : Fin 128) (n : Fin 256), x = ix2 a n := ⟨x 0, x 1, by funext a; match a with | 0 => rfl | 1 => rfl⟩
  have h0 : (y 0).val = R + a.val := h0
  have hc : (y 1).val = C + n.val := hc
  have l0 : a.val < 128 := a.isLt
  have l1 : n.val < 256 := n.isLt
  generalize hr : (y 0 : Fin 1024) = r at h0
  generalize hk : (y 1 : Fin 2048) = k at hc
  refine (tile_chain hR.2 hq _ _ _ _ _ _ _ _ _ _ _ _).trans ?_
  unfold mixAt
  rw [read3 harg12 PS i12 0 a n (⟨k.val / 512, by omega⟩ : Fin 4) r (⟨k.val % 512, by omega⟩ : Fin 512) (by simp; omega) h0 (by dsimp only; omega)]
  refine congrArg _ (congr (congrArg _ (Finset.sum_congr rfl fun s _ => ?_)) (congrArg b ?_))
  · rw [read3 harg8 x6 i8 0 a s (⟨k.val / 256, by omega⟩ : Fin 8) (⟨r.val % 128, by omega⟩ : Fin 128) s (by simp; omega) (by dsimp only; omega) (by omega),
      read3 harg11 VS i11 0 s n (⟨k.val / 512, by omega⟩ : Fin 4) (⟨r.val / 128 * 128 + s.val, by omega⟩ : Fin 1024) (⟨k.val % 512, by omega⟩ : Fin 512) (by simp; omega) (by dsimp only; omega) (by dsimp only; omega),
      read2 harg6 x4 i6 0 n 0 k (by simp) hc, read2 harg7 x5 i7 0 n 0 k (by simp) hc]
    have er : (⟨R + s.val, by omega⟩ : Fin 1024) = ⟨r.val / 128 * 128 + s.val, by omega⟩ := Fin.ext (by dsimp only; omega)
    have ea : a.val = r.val % 128 := by omega
    rw [er, ea]
  · have e1 : a = (⟨r.val % 128, by omega⟩ : Fin 128) := Fin.ext (by dsimp only; omega)
    have e2 : (⟨q, hq⟩ : Fin 8) = ⟨k.val / 256, by omega⟩ := Fin.ext (by dsimp only; omega)
    rw [e1, e2]

end Cert.SguIdeal.Own

end
-- ==== Proof.SguCanon.lean ====
/- The gMLP gating's output block: its 64 tiles are one mixed block. -/
module

public import proofs.«01_k».proof.Proof.SguTile

@[expose] public section

set_option maxRecDepth 16384

noncomputable section

namespace Cert.SguIdeal.Own

open Cert.SguIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

set_option maxHeartbeats 8000000 in
/-- The block the tiles leave. -/
theorem mix_canon  (c : Dev nD) (i : grid0.Coords) (arg2 : Memref sig .tc .vmem S1024x2048 .bf16) (harg2 : arg2.IsWhole) (arg3 : Memref sig .tc .vmem S1x512x2048 .bf16) (harg3 : arg3.IsWhole) (arg4 : Memref sig .tc .vmem S1x512x2048 .bf16) (harg4 : arg4.IsWhole) (arg5 : Memref sig .tc .vmem S1x512x2048 .bf16) (harg5 : arg5.IsWhole) (arg6 : Memref sig .tc .vmem S1x2048 .f32) (harg6 : arg6.IsWhole) (arg7 : Memref sig .tc .vmem S1x2048 .f32) (harg7 : arg7.IsWhole) (arg8 : Memref sig .tc .vmem S8x128x128 .f32) (harg8 : arg8.IsWhole) (arg9 : Memref sig .tc .vmem S128x8 .f32) (harg9 : arg9.IsWhole) (arg10 : Memref sig .tc .vmem S1024x2048 .bf16) (harg10 : arg10.IsWhole) (arg11 : Memref sig .tc .vmem S4x1024x512 .f32) (harg11 : arg11.IsWhole) (arg12 : Memref sig .tc .vmem S4x1024x512 .bf16) (harg12 : arg12.IsWhole) (hc : k0_cond1 i = 1#1) (j : ℕ) (hoff : k0_off1 i = ![j, 0, 0])
    (x0 : Vec Ideal S1024x2048 .bf16) (x1 : Vec Ideal S1x512x2048 .bf16) (x2 : Vec Ideal S1x512x2048 .bf16) (x3 : Vec Ideal S1x512x2048 .bf16) (x4 : Vec Ideal S1x2048 .f32) (x5 : Vec Ideal S1x2048 .f32) (x6 : Vec Ideal S8x128x128 .f32) (x7 : Vec Ideal S128x8 .f32)
    (VS : Vec Ideal S4x1024x512 .f32) (PS : Vec Ideal S4x1024x512 .bf16) (y : S1024x2048.Idx) :
    View.canon ((run_mix (F := Ideal) c i arg2 harg2 arg3 harg3 arg4 harg4 arg5 harg5 arg6 harg6 arg7 harg7 arg8 harg8 arg9 harg9 arg10 harg10 arg11 harg11 arg12 harg12 hc j hoff x0 x1 x2 x3 x4 x5 x6 x7).1 VS PS) y
      = mixAt VS PS (run_mix.sl.r_2 c arg11 harg11 VS) (run_mix.sl.r_5 c arg11 harg11 VS) x4 x5 x6 (run_mix.sl.r_6 c arg9 harg9 x7) (y 0) (y 1) := by
  unfold run_mix
  dsimp only
  canon_tiles x h
  all_goals
    (try dsimp only [run_mix.sl.r_7, run_mix.sl.r_8, run_mix.sl.r_9, run_mix.sl.r_10, run_mix.sl.r_11, run_mix.sl.r_12, run_mix.sl.r_13, run_mix.sl.r_14, run_mix.sl.r_15, run_mix.sl.r_16, run_mix.sl.r_17, run_mix.sl.r_18, run_mix.sl.r_19, run_mix.sl.r_20, run_mix.sl.r_21, run_mix.sl.r_22, run_mix.sl.r_23, run_mix.sl.r_24, run_mix.sl.r_25, run_mix.sl.r_26, run_mix.sl.r_27, run_mix.sl.r_28, run_mix.sl.r_29, run_mix.sl.r_30, run_mix.sl.r_31, run_mix.sl.r_32, run_mix.sl.r_33, run_mix.sl.r_34, run_mix.sl.r_35, run_mix.sl.r_36, run_mix.sl.r_37, run_mix.sl.r_38, run_mix.sl.r_39, run_mix.sl.r_40, run_mix.sl.r_41, run_mix.sl.r_42, run_mix.sl.r_43, run_mix.sl.r_44, run_mix.sl.r_45, run_mix.sl.r_46, run_mix.sl.r_47, run_mix.sl.r_48, run_mix.sl.r_49, run_mix.sl.r_50, run_mix.sl.r_51, run_mix.sl.r_52, run_mix.sl.r_53, run_mix.sl.r_54, run_mix.sl.r_55, run_mix.sl.r_56, run_mix.sl.r_57, run_mix.sl.r_58, run_mix.sl.r_59, run_mix.sl.r_60, run_mix.sl.r_61, run_mix.sl.r_62, run_mix.sl.r_63, run_mix.sl.r_64, run_mix.sl.r_65, run_mix.sl.r_66, run_mix.sl.r_67, run_mix.sl.r_68, run_mix.sl.r_69, run_mix.sl.r_70, run_mix.sl.r_71, run_mix.sl.r_72, run_mix.sl.r_73])
    open_payloads_core
    exact tile_mix (by omega) (by omega) (by decide) (by decide) (by decide)

end Cert.SguIdeal.Own

end
-- ==== Proof.SguMix.lean ====
/- The gMLP gating's block, from what its arrays hold: the slices are the reference's gated halves, the row statistics the reference's,
   and so the mixed block is the reference's result. -/
module

public import proofs.«01_k».proof.Proof.SguTile
public import proofs.«01_k».proof.Proof.SguRefPoint

@[expose] public section

set_option maxRecDepth 16384

noncomputable section

namespace Cert.SguIdeal.Own

open Cert.SguIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

open Idealize.ShloMosaic.Pipeline (Dat Cfg Window BodyObligation cellOf)

open Cert.SguRefIdeal.Point (Z gelu silu VV MU RS nrm v75)

/-- A row's sum in four pieces. -/
theorem sum4 (f : Fin 2048 → EReal) : ∑ k, f k = (∑ n : Fin 512, f ⟨n.val, by omega⟩) + (∑ n : Fin 512, f ⟨512 + n.val, by omega⟩)
    + (∑ n : Fin 512, f ⟨1024 + n.val, by omega⟩) + ∑ n : Fin 512, f ⟨1536 + n.val, by omega⟩ := by
  have e1 : ∑ k, f k = (∑ k : Fin 1536, f ⟨k.val, by omega⟩) + ∑ n : Fin 512, f ⟨1536 + n.val, by omega⟩ := Fin.sum_univ_add (a := 1536) (b := 512) f
  have e2 : (∑ k : Fin 1536, f ⟨k.val, by omega⟩) = (∑ k : Fin 1024, f ⟨k.val, by omega⟩) + ∑ n : Fin 512, f ⟨1024 + n.val, by omega⟩ :=
    Fin.sum_univ_add (a := 1024) (b := 512) fun k : Fin 1536 => f ⟨k.val, by omega⟩
  have e3 : (∑ k : Fin 1024, f ⟨k.val, by omega⟩) = (∑ k : Fin 512, f ⟨k.val, by omega⟩) + ∑ n : Fin 512, f ⟨512 + n.val, by omega⟩ :=
    Fin.sum_univ_add (a := 512) (b := 512) fun k : Fin 1024 => f ⟨k.val, by omega⟩
  rw [e1, e2, e3]

/-- The kernel's mean of a row, from its four slices. -/
theorem mean_at (l0 l1 l2 l3 : Vec Ideal S1x1024x512 .f32) (f : Fin 2048 → EReal) (r : Fin 1024)
    (h0 : ∀ n : Fin 512, l0 (ix3 0 r n) = f ⟨n.val, by omega⟩) (h1 : ∀ n : Fin 512, l1 (ix3 0 r n) = f ⟨512 + n.val, by omega⟩)
    (h2 : ∀ n : Fin 512, l2 (ix3 0 r n) = f ⟨1024 + n.val, by omega⟩) (h3 : ∀ n : Fin 512, l3 (ix3 0 r n) = f ⟨1536 + n.val, by omega⟩) :
    k0_pay3 l0 l1 l2 l3 (ix2 r 0) = MU f := by
  pointwise [k0_pay3]
  simp only [h0, h1, h2, h3]
  unfold MU
  rw [sum4 f]

/-- The kernel's reciprocal deviation of a row, from its four slices. -/
theorem rstd_at (l0 l1 l2 l3 : Vec Ideal S1x1024x512 .f32) (f : Fin 2048 → EReal) (r : Fin 1024)
    (h0 : ∀ n : Fin 512, l0 (ix3 0 r n) = f ⟨n.val, by omega⟩) (h1 : ∀ n : Fin 512, l1 (ix3 0 r n) = f ⟨512 + n.val, by omega⟩)
    (h2 : ∀ n : Fin 512, l2 (ix3 0 r n) = f ⟨1024 + n.val, by omega⟩) (h3 : ∀ n : Fin 512, l3 (ix3 0 r n) = f ⟨1536 + n.val, by omega⟩) :
    k0_pay6 (k0_pay3 l0 l1 l2 l3) (k0_pay4 l0 l1 l2 l3 l0) (k0_pay5 l0 l1 l2 l3 l1) l2 l3 (ix2 r 0) = RS f := by
  have hm := mean_at l0 l1 l2 l3 f r h0 h1 h2 h3
  generalize e : k0_pay3 l0 l1 l2 l3 = mu at hm ⊢
  pointwise [k0_pay6, k0_pay5, k0_pay4]
  simp only [e, hm, h0, h1, h2, h3]
  unfold RS
  rw [sum4 fun k => (f k - MU f) * (f k - MU f)]

/-- The mixed block is the reference's result at the block's rows, when the arrays hold the reference's halves and statistics. -/
theorem mixAt_ref (h : FVec Ideal Cert.SguRefIdeal.S16384x2048 .bf16) (x : FVec Ideal Cert.SguRefIdeal.S2x2048x23600 .f32) (lg lb : FVec Ideal Cert.SguRefIdeal.S2048 .f32)
    (ws : FVec Ideal Cert.SguRefIdeal.S8x128x128 .f32) (bs : FVec Ideal Cert.SguRefIdeal.S8x128 .f32)
    (VS : Vec Ideal S4x1024x512 .f32) (PS : Vec Ideal S4x1024x512 .bf16) (mu rs : FVec Ideal S1024x1 .f32) (x4 x5 : Vec Ideal S1x2048 .f32)
    (x6 : Vec Ideal S8x128x128 .f32) (b : FVec Ideal S128x8 .f32) (T : ℕ) (hT : T < 16)
    (hV : ∀ (j : Fin 4) (r : Fin 1024) (n : Fin 512) (i : Fin 16384) (k : Fin 2048), i.val = T * 1024 + r.val → k.val = j.val * 512 + n.val → VS (ix3 j r n) = VV h x i k)
    (hP : ∀ (j : Fin 4) (r : Fin 1024) (n : Fin 512) (i : Fin 16384) (k : Fin 2048), i.val = T * 1024 + r.val → k.val = j.val * 512 + n.val →
      PS (ix3 j r n) = gelu (Z h x i ⟨k.val, by omega⟩) * silu (Z h x i ⟨4096 + k.val, by omega⟩))
    (hmu : ∀ (r : Fin 1024) (i : Fin 16384), i.val = T * 1024 + r.val → mu (ix2 r 0) = MU (VV h x i))
    (hrs : ∀ (r : Fin 1024) (i : Fin 16384), i.val = T * 1024 + r.val → rs (ix2 r 0) = RS (VV h x i))
    (h4 : ∀ k, x4 (ix2 0 k) = lg (ix1 k)) (h5 : ∀ k, x5 (ix2 0 k) = lb (ix1 k)) (h6 : ∀ p q r, x6 (ix3 p q r) = ws (ix3 p q r))
    (hb : ∀ a q, b (ix2 a q) = bs (ix2 q a)) (r : Fin 1024) (k : Fin 2048) (i : Fin 16384) (hi : i.val = T * 1024 + r.val) :
    mixAt VS PS mu rs x4 x5 x6 b r k = Cert.SguRefIdeal.Read.val_main_v75 (F := Ideal) h x lg lb ws bs (ix2 i k) := by
  rw [v75]
  unfold mixAt
  rw [hP _ _ _ i k hi (by dsimp only; omega), hb]
  have er : (⟨r.val % 128, by omega⟩ : Fin 128) = ⟨i.val % 128, by omega⟩ := Fin.ext (by dsimp only; omega)
  have en : r.val % 128 = i.val % 128 := by omega
  have es : ∀ s : Fin 128, (if s.val ≤ r.val % 128 then x6 (ix3 (⟨k.val / 256, by omega⟩ : Fin 8) (⟨r.val % 128, by omega⟩ : Fin 128) s) else 0)
      * ((VS (ix3 (⟨k.val / 512, by omega⟩ : Fin 4) (⟨r.val / 128 * 128 + s.val, by omega⟩ : Fin 1024) (⟨k.val % 512, by omega⟩ : Fin 512))
          - mu (ix2 (⟨r.val / 128 * 128 + s.val, by omega⟩ : Fin 1024) 0)) * rs (ix2 (⟨r.val / 128 * 128 + s.val, by omega⟩ : Fin 1024) 0)
          * x4 (ix2 0 k) + x5 (ix2 0 k))
      = nrm lg lb (VV h x (⟨i.val / 128 * 128 + s.val, by omega⟩ : Fin 16384)) k
          * (if s.val ≤ i.val % 128 then ws (ix3 (⟨k.val / 256, by omega⟩ : Fin 8) (⟨i.val % 128, by omega⟩ : Fin 128) s) else 0) := by
    intro s
    have hs : (⟨i.val / 128 * 128 + s.val, by omega⟩ : Fin 16384).val = T * 1024 + (⟨r.val / 128 * 128 + s.val, by omega⟩ : Fin 1024).val := by dsimp only; omega
    rw [hV _ _ _ _ k hs (by dsimp only; omega), hmu _ _ hs, hrs _ _ hs, h4, h5, h6, er, en, mul_comm]
    rfl
  rw [Finset.sum_congr rfl fun s _ => es s, er, mul_right_comm]

end Cert.SguIdeal.Own

end
-- ==== Proof.SguValue.lean ====
/- The gMLP gating's result over the extended reals: the block each row's last point stores is the reference's, and so is the result
   array after the run. -/
module

public import proofs.«01_k».proof.Proof.SguSlice
public import proofs.«01_k».proof.Proof.SguCanon
public import proofs.«01_k».proof.Proof.SguMix

@[expose] public section

set_option maxRecDepth 16384

noncomputable section

open Idealize.ShloMosaic Idealize.ShloMosaic.TcCoe Idealize.SL.Sem
open Idealize.ShloMosaic.Pipeline (Dat)

namespace Cert.SguIdeal.RefValue

open Cert.SguIdeal Cert.SguIdeal.Gen Cert.SguIdeal.Own
open Cert.SguRefIdeal.Point (Z gelu silu VV MU RS)

variable (m : (ℓ : Loc nD τ sig) → Buf (Elt Ideal) ℓ)

/-- The reference's result, of the arguments. -/
def REF (c : Dev nD) : FVec Ideal Cert.SguRefIdeal.S16384x2048 .bf16 :=
  Cert.SguRefIdeal.Read.val_main_v75 (F := Ideal) (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))

/-- The statistics' four loads of the first scratch array. -/
theorem loads (c : Dev nD) (t : Fin cfg0.N) {M : Memref sig .tc .vmem S4x1024x512 .f32} (hM : M.IsWhole) (r : Fin 1024) (i : Fin 16384)
    (hi : i.val = t.val / 4 * 1024 + r.val) (j : ℕ) (hj : j < 4) (inb : ∀ d, (![j, 0, 0] : Fin 3 → ℕ) d + (![1, 1024, 512] : Fin 3 → ℕ) d ≤ S4x1024x512.size d)
    (n : Fin 512) (k : Fin 2048) (hk : k.val = j * 512 + n.val) :
    View.readAt (Elt Ideal) M.view (Rect.unit (s := S4x1024x512) ![j, 0, 0] ![1, 1024, 512] inb).toLoadRect (hM.unread (VST m c t.val)) (ix3 0 r n)
      = VV (HH m c) (XX m c) i k := by
  rw [read3 hM (VST m c t.val) inb 0 r n (⟨j, hj⟩ : Fin 4) r n (by simp) (by omega) (by omega)]
  exact vst_at m c t _ r n i k hi hk

/-- The kernel's mean is the reference's. -/
theorem mean_eq (c c' : Dev nD) (t : Fin cfg0.N) {M : Memref sig .tc .vmem S4x1024x512 .f32} (hM : M.IsWhole) (r : Fin 1024) (i : Fin 16384)
    (hi : i.val = t.val / 4 * 1024 + r.val) : run_mix.sl.r_2 c' M hM (VST m c t.val) (ix2 r 0) = MU (VV (HH m c) (XX m c) i) := by
  unfold run_mix.sl.r_2
  exact mean_at _ _ _ _ _ r (fun n => loads m c t hM r i hi 0 (by decide) _ n _ (by simp)) (fun n => loads m c t hM r i hi 1 (by decide) _ n _ (by simp))
    (fun n => loads m c t hM r i hi 2 (by decide) _ n _ (by simp)) (fun n => loads m c t hM r i hi 3 (by decide) _ n _ (by simp))

/-- The kernel's reciprocal deviation is the reference's. -/
theorem rstd_eq (c c' : Dev nD) (t : Fin cfg0.N) {M : Memref sig .tc .vmem S4x1024x512 .f32} (hM : M.IsWhole) (r : Fin 1024) (i : Fin 16384)
    (hi : i.val = t.val / 4 * 1024 + r.val) : run_mix.sl.r_5 c' M hM (VST m c t.val) (ix2 r 0) = RS (VV (HH m c) (XX m c) i) := by
  unfold run_mix.sl.r_5 run_mix.sl.r_2 run_mix.sl.r_3 run_mix.sl.r_4
  exact rstd_at _ _ _ _ _ r (fun n => loads m c t hM r i hi 0 (by decide) _ n _ (by simp)) (fun n => loads m c t hM r i hi 1 (by decide) _ n _ (by simp))
    (fun n => loads m c t hM r i hi 2 (by decide) _ n _ (by simp)) (fun n => loads m c t hM r i hi 3 (by decide) _ n _ (by simp))

/-- The kernel's bias is the reference's. -/
theorem bias_eq (c c' : Dev nD) (t : Fin cfg0.N) {M : Memref sig .tc .vmem S128x8 .f32} (hM : M.IsWhole) (p : Fin 128) (q : Fin 8) :
    run_mix.sl.r_6 c' M hM (iblk m c 7 t) (ix2 p q) = m ((c : Thread nD τ).loc main_arg5) (ix2 q p) := by
  unfold run_mix.sl.r_6
  have e := (read2 hM (iblk m c 7 t) inb_S128x8_S128x8_0_0 p q p q (by omega) (by omega)).trans (rd7 m c t p q)
  revert e
  generalize View.readAt (Elt Ideal) M.view _ (hM.unread (iblk m c 7 t)) = Y
  intro e
  pointwise [k0_pay8]
  exact e

set_option maxHeartbeats 1600000 in
/-- The block a row's last point stores is the reference's block. -/
theorem result (c : Dev nD) (t : Fin cfg0.N) (h3 : t.val % 4 = 3) (y : S1024x2048.Idx) (j : Cert.SguRefIdeal.S16384x2048.Idx)
    (h0 : (j 0).val = t.val / 4 * 1024 + (y 0).val) (h1 : (j 1).val = (y 1).val) : View.canon (tiles m c t h3) y = REF m c j := by
  have ht : t.val < 64 := lt_of_lt_of_eq t.isLt (show cfg0.N = 64 from N_0)
  have ej : j = ix2 (j 0) (y 1) := by funext a; match a with | 0 => rfl | 1 => exact Fin.ext h1
  rw [ej]
  unfold tiles REF
  refine (mix_canon _ _ _ _ _ _ _ _ _ _ _ _ _ _ _ _ _ _ _ _ _ _ _ _ _ _ _ _ _ _ _ _ _ _ _ _ _ y).trans ?_
  exact mixAt_ref (HH m c) (XX m c) (m ((c : Thread nD τ).loc main_arg2)) (m ((c : Thread nD τ).loc main_arg3)) (m ((c : Thread nD τ).loc main_arg4))
    (m ((c : Thread nD τ).loc main_arg5)) _ _ _ _ _ _ _ _ (t.val / 4) (by omega) (fun j r n i k => vst_at m c t j r n i k) (fun j r n i k => pst_at m c t j r n i k)
    (fun r i hi => mean_eq m c c t _ r i hi) (fun r i hi => rstd_eq m c c t _ r i hi) (fun k => rd4 m c t k) (fun k => rd5 m c t k)
    (fun p q r => rd6 m c t p q r) (fun a q => bias_eq m c c t _ a q) (y 0) (y 1) (j 0) h0

/-- The result array after the run. -/
theorem final {r : PUnit × MemSt nD τ sig (Elt Ideal)} (h : Pipeline.RDat.FramePost (cfgs 0) (fun c => rdat m c) (V m) r) (c : Dev nD) :
    r.2.mem ((c.tc : Thread nD τ).loc main_v18) = REF m c := by
  obtain ⟨after, hL, hA⟩ := h.exists_exact c
  refine (hA 8).trans ?_
  refine ((rdat m c).withAfter after).arrAt_eq_of_covers 8 _ (by decide +kernel) fun t hf y => ?_
  have h3 : t.val % 4 = 3 := (flush0_8 t).mp hf
  have hX : after 8 t = View.canon (tiles m c t h3) := Dat.toRRel_leaves (dat := dats m 0 c) (fgt := fgt) (Rl := Rl m c) (w := 8) rfl (hL 8 t hf) h3
  blk_simp
  rw [Pipeline.RDat.withAfter_after, hX]
  refine result m c t h3 y _ ?_ ?_ <;> blk_simp [idx t]

/-- Every run ends with the reference's result in the result array and the arguments kept. -/
theorem run_value (ρ : Dev nD → PrngReg) : θ_run defs (onTc (τ := τ) (main (F := Ideal))) ⟨m, fun _ => 0, ρ⟩ (fun r => ∀ c : Dev nD,
      r.2.mem ((c.tc : Thread nD τ).loc main_v18) = REF m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨final m h.1 c, args_of m h.1 c⟩) (run_quiescent m ρ)

end Cert.SguIdeal.RefValue

end
-- ==== Proof.MergeValue.lean ====
/- The value of the merge of the three branches: the array the tiled kernel leaves is, index by index, the reference's
   `sigmoid(m_a) (ya W_0) + sigmoid(m_b) (yb W_1) + sigmoid(m_c) (yc W_2)` over the extended reals. -/
module

public import proofs.«01_k».proof.Proof.Gen.MergeIdeal.Value
public import proofs.«01_k».proof.Proof.Gen.MergeRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.MergeIdeal.RefValue

open Cert.MergeIdeal Cert.MergeIdeal.Gen
open Cert.MergeRefIdeal.Read

variable (m : (ℓ : Loc nD τ sig) → Buf (Elt Ideal) ℓ)

/-- The reference's result, of the kernel's own argument arrays. -/
abbrev REF (c : Dev nD) : FVec Ideal S16384x2048 .bf16 :=
  val_main_v28 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- Where each window stands at a grid point. -/
theorem idx : ∀ t : Fin cfg0.N, win0_0.index t = ![t.val / 4, 0] ∧ win0_1.index t = ![t.val / 4, 0] ∧ win0_2.index t = ![t.val / 4, 0]
    ∧ win0_3.index t = ![t.val / 4, 16 + t.val % 4] ∧ win0_4.index t = ![t.val / 4, 20 + t.val % 4]
    ∧ win0_5.index t = ![t.val / 4, 24 + t.val % 4] ∧ win0_6.index t = ![0, 0, t.val % 4]
    ∧ win0_7.index t = ![t.val / 4, t.val % 4] ∧ t.val / 4 < 16 :=
  (by decide +kernel : ∀ t : Fin grid0.N, _)

/-- What the body stores at an index of its block is the reference at the place of that index. -/
theorem point (c : Dev nD) (t : Fin cfg0.N) (y : S1024x512.Idx) (j : S16384x2048.Idx) (h0 : (j 0).val = t.val / 4 * 1024 + (y 0).val)
    (h1 : (j 1).val = t.val % 4 * 512 + (y 1).val) :
    k0_pay1 (iblk m c 3 t) (iblk m c 0 t) (View.ld (iblk m c 6 t) r0_2) (iblk m c 4 t) (iblk m c 1 t) (View.ld (iblk m c 6 t) r0_3)
      (iblk m c 5 t) (iblk m c 2 t) (View.ld (iblk m c 6 t) r0_4) y = REF m c j := by
  pointwise [k0_pay1, REF, val_main_v0, val_main_v1, val_main_v2, val_main_v3, val_main_cst, val_main_v4, val_main_v5, val_main_cst_0, val_main_v6, val_main_v7, val_main_v8, val_main_v9, val_main_v10, val_main_v11, val_main_v12, val_main_v13, val_main_v14, val_main_v15, val_main_v16, val_main_v17, val_main_v18, val_main_v19, val_main_v20, val_main_v21, val_main_v22, val_main_v23, val_main_v24, val_main_v25, val_main_v26, val_main_v27, val_main_v28]
  simp only [Ideal.logistic]
  blk_point [iblk, V, idx t]

theorem final (c : Dev nD) : (dats m 0 c).arrAt 7 (cfgs 0).N = REF m c := by
  refine (dats m 0 c).arrAt_eq_of_covers 7 _ (by decide +kernel) fun t _ y => ?_
  blk_simp
  rw [after0_7]; frame_out
  refine point m c t y _ ?_ ?_
  · blk_simp [idx t]
  · blk_simp [idx t]

end Cert.MergeIdeal.RefValue

end
-- ==== Proof.ProjHost.lean ====
/- The input projection's operands: each block as a read of its array, and the weights the host lines prepare. -/
module

public import proofs.«01_k».proof.Proof.Gen.ProjIdeal.Value
public import proofs.«01_k».proof.Proof.Gen.ProjRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen
open Cert.ProjRefIdeal.Read

variable (m : (ℓ : Loc nD τ sig) → Buf (Elt Ideal) ℓ)

/-- The reference's result, of the kernel's own argument arrays. -/
abbrev REF (c : Dev nD) : FVec Ideal S16384x17920 .bf16 :=
  val_main_v22 (F := Ideal) (m ((c : Thread nD τ).loc main_arg0)) (m ((c : Thread nD τ).loc main_arg1))

/-- Where each window stands at a grid point. -/
theorem idx : ∀ t : Fin cfg0.N, win0_0.index t = ![t.val / 7, 0] ∧ win0_1.index t = ![0, t.val % 7, 0] ∧ win0_2.index t = ![t.val / 7, t.val % 7] ∧ t.val < 112 :=
  (by decide +kernel : ∀ t : Fin grid0.N, _)

/-- A block of `h` read at an index is `h` read where the block stands. -/
theorem rd0 (c : Dev nD) (t : Fin cfg0.N) (a : Fin 1024) (b : Fin 2048) (i : Fin 16384) (h : i.val = t.val / 7 * 1024 + a.val) :
    iblk m c 0 t (ix2 a b) = m ((c : Thread nD τ).loc main_arg0) (ix2 i b) := by
  blk_ext! [iblk, V, idx t]

/-- A block of the prepared weights read at an index is those weights read where the block stands. -/
theorem rd1 (c : Dev nD) (t : Fin cfg0.N) (n : Fin 2560) (x : Fin 2048) (j : Fin 24064) (h : j.val = t.val % 7 * 2560 + n.val) :
    X0_1 m c t (ix3 0 n x) = V m c main_v14 (ix3 0 j x) := by
  unfold X0_1 Pipeline.Window.fill
  rw [dif_pos (moved0_1 t _)]
  blk_simp [iblk, idx t]
  refine congrArg (V m c main_v14) (funext fun a => Fin.ext ?_)
  match a with
  | ⟨0, _⟩ => blk_simp [idx t]; try rfl
  | ⟨1, _⟩ => blk_simp [idx t]; exact h.symm
  | ⟨2, _⟩ => blk_simp [idx t]; try rfl

/-- The gate and selection columns of the transposed weights, regrouped by head group and padded to 128 columns a group. -/
def GTm (x : FVec Ideal S2x2048x23600 .f32) : FVec Ideal S2x512x2048 .f32 :=
  let v0 := transpose S2x23600x2048 [0, 2, 1] x transposes_S2x2048x23600_S2x23600x2048_0_2_1
  let v1 : FVec Ideal S2x48x2048 .f32 := extractStridedSlice S2x48x2048 ![0, 11264, 0] v0 slices_S2x23600x2048_S2x48x2048_0_11264_0
  let v2 : FVec Ideal S2x3x4x4x2048 .f32 := shapeCast _ v1 shapeCasts_S2x48x2048_S2x3x4x4x2048
  let v3 : FVec Ideal S2x4x3x4x2048 .f32 := transpose S2x4x3x4x2048 [0, 2, 1, 3, 4] v2 transposes_S2x3x4x4x2048_S2x4x3x4x2048_0_2_1_3_4
  let v4 : FVec Ideal S2x4x12x2048 .f32 := shapeCast _ v3 shapeCasts_S2x4x3x4x2048_S2x4x12x2048
  let v5 : FVec Ideal S2x4x128x2048 .f32 := pad S2x4x128x2048 ![0, 0, 0, 0] ![0, 0, 116, 0] ![0, 0, 0, 0] v4 (sitofp (F := Ideal) FTy.f32 (constantI S_ 32 0#32)) pads_S2x4x12x2048_S2x4x128x2048_000_000_01160_000 h_S_
  shapeCast _ v5 shapeCasts_S2x4x128x2048_S2x512x2048

/-- The prepared weights, transposed, with their columns in the packed order. -/
def WTm (x : FVec Ideal S2x2048x23600 .f32) : FVec Ideal S2x24064x2048 .bf16 :=
  let v0 := transpose S2x23600x2048 [0, 2, 1] x transposes_S2x2048x23600_S2x23600x2048_0_2_1
  let v7 : FVec Ideal S2x2048x2048 .f32 := extractStridedSlice S2x2048x2048 ![0, 6144, 0] v0 slices_S2x23600x2048_S2x2048x2048_0_6144_0
  let v8 : FVec Ideal S2x2048x2048 .f32 := broadcastInDim S2x2048x2048 ![] bcast_S_S2x2048x2048 (constant S_ FTy.f32 1040356334#32)
  let v9 : FVec Ideal S2x2048x2048 .f32 := mulf v7 v8
  let v10 : FVec Ideal S2x12288x2048 .f32 := extractStridedSlice S2x12288x2048 ![0, 11312, 0] v0 slices_S2x23600x2048_S2x12288x2048_0_11312_0
  let v11 : FVec Ideal S2x3072x2048 .f32 := extractStridedSlice S2x3072x2048 ![0, 8192, 0] v0 slices_S2x23600x2048_S2x3072x2048_0_8192_0
  let v12 : FVec Ideal S2x6144x2048 .f32 := extractStridedSlice S2x6144x2048 ![0, 0, 0] v0 slices_S2x23600x2048_S2x6144x2048_0_0_0
  truncf .bf16 (concatenate S2x24064x2048 1 [⟨S2x2048x2048, v9⟩, ⟨S2x12288x2048, v10⟩, ⟨S2x3072x2048, v11⟩, ⟨S2x512x2048, GTm x⟩, ⟨S2x6144x2048, v12⟩] concatenates_S2x2048x2048_S2x12288x2048_S2x3072x2048_S2x512x2048_S2x6144x2048_S2x24064x2048_d1) bitsLt_bf16_f32

/-- The host lines leave these weights for the call. -/
theorem V_main_v14 (c : Dev nD) : V m c main_v14 = WTm (m ((c : Thread nD τ).loc main_arg1)) := by
  unfold V
  simp only [hostOps0, hostOps0_1, hostOps0_2, List.flatten_cons, List.flatten_nil, List.append_nil, List.cons_append, List.nil_append]
  after_results
  rfl

end Cert.ProjIdeal.RefValue

end
-- ==== Proof.ProjValue.lean ====
/- The value of the input projection: the array the tiled kernel leaves, in its packed column order, is index by index the
   reference's product of the tokens with the projection's weights, over the extended reals. -/
module

public import proofs.«01_k».proof.Proof.ProjHost

@[expose] public section

set_option maxRecDepth 16384

noncomputable section

open Idealize.ShloMosaic Idealize.ShloMosaic.TcCoe Idealize.SL.Sem
open Idealize.ShloMosaic.Pipeline (Dat)

namespace Cert.ProjIdeal.RefValue

open Cert.ProjIdeal Cert.ProjIdeal.Gen
open Cert.ProjRefIdeal.Read

variable (m : (ℓ : Loc nD τ sig) → Buf (Elt Ideal) ℓ)

/-- The projection at a token and a column of the weights as the problem lays them out. -/
def Z (h : FVec Ideal S16384x2048 .bf16) (x : FVec Ideal S2x2048x23600 .f32) (i : Fin 16384) (n : Fin 23600) : EReal :=
  ∑ k : Fin 2048, h (ix2 i k) * x (ix3 0 k n)

/-- The softmax scale that the queries carry. -/
abbrev sc : EReal := Ideal.ofBits FTy.f32 1040356334#32

/-- The integer zero as a number. -/
theorem zero_i : (FloatOps.sitofp (F := Ideal) FTy.f32 0#32 : EReal) = 0 := by
  show (((0#32 : BitVec 32).toInt : ℝ) : EReal) = 0
  simp

/-- The grouped gate columns of the prepared weights, read at an index. -/
theorem gt (x : FVec Ideal S2x2048x23600 .f32) (j : Fin 512) (k : Fin 2048) : GTm x (ix3 0 j k) =
    if h : j.val / 128 < 4 ∧ j.val % 128 < 12 then x (ix3 0 k (⟨11264 + (j.val % 128 / 4 * 16 + j.val / 128 * 4 + j.val % 128 % 4), by omega⟩ : Fin 23600)) else (0 : EReal) := by
  pointwise [GTm]
  split
  · rfl
  · exact zero_i

/-- The prepared weights, read at an index: one case for each group of columns. -/
theorem wt (x : FVec Ideal S2x2048x23600 .f32) (j : Fin 24064) (k : Fin 2048) : WTm x (ix3 0 j k) = (
    if h : j.val < 2048 then x (ix3 0 k (⟨6144 + j.val, by omega⟩ : Fin 23600)) * sc
    else if h : j.val - 2048 < 12288 then x (ix3 0 k (⟨11312 + (j.val - 2048), by omega⟩ : Fin 23600))
    else if h : j.val - 2048 - 12288 < 3072 then x (ix3 0 k (⟨8192 + (j.val - 2048 - 12288), by omega⟩ : Fin 23600))
    else if h : j.val - 2048 - 12288 - 3072 < 512 then GTm x (ix3 0 (⟨j.val - 2048 - 12288 - 3072, h⟩ : Fin 512) k)
    else x (ix3 0 k (⟨j.val - 2048 - 12288 - 3072 - 512, by omega⟩ : Fin 23600)) : EReal) := by
  pointwise [WTm]

/-- The reference's product at an index. -/
theorem z3 (h : FVec Ideal S16384x2048 .bf16) (x : FVec Ideal S2x2048x23600 .f32) (i : Fin 16384) (n : Fin 23600) :
    val_main_v3 (F := Ideal) h x (ix2 i n) = Z h x i n := by
  pointwise [val_main_v0, val_main_v1, val_main_v2, val_main_v3, Z]

/-- The reference's grouped gate columns, read at an index. -/
theorem gref (h : FVec Ideal S16384x2048 .bf16) (x : FVec Ideal S2x2048x23600 .f32) (i : Fin 16384) (j : Fin 512) :
    val_main_v18 (F := Ideal) h x (ix2 i j) = (
    if h' : j.val / 128 < 4 ∧ j.val % 128 < 12 then Z h x i (⟨11264 + (j.val % 128 / 4 * 16 + j.val / 128 * 4 + j.val % 128 % 4), by omega⟩ : Fin 23600) else (0 : EReal)) := by
  pointwise [val_main_v9, val_main_v14, val_main_v15, val_main_v16, val_main_c, val_main_call0_v0, val_main_v17, val_main_v18]
  simp only [z3]
  split
  · rfl
  · exact zero_i

/-- A positive real constant moves into a sum of products. -/
theorem sum_scale (f g : Fin 2048 → EReal) : (∑ k, f k * g k) * sc = ∑ k, f k * (g k * sc) := by
  have hv : sc = (((8388608 + 168942 : ℝ) * 2 ^ (-26 : ℤ) : ℝ) : EReal) := by
    simp [sc, Ideal.ofBits, Ideal.ieee, -EReal.coe_mul]
    norm_num
  have hs : 0 ≤ sc := by rw [hv]; exact EReal.coe_nonneg.mpr (by positivity)
  have ht : sc ≠ ⊤ := by rw [hv]; exact EReal.coe_ne_top _
  have key : ∀ s : Finset (Fin 2048), (∑ k ∈ s, f k * g k) * sc = ∑ k ∈ s, f k * (g k * sc) := by
    intro s
    induction s using Finset.induction_on with
    | empty => simp
    | insert a s ha ih =>
      rw [Finset.sum_insert ha, Finset.sum_insert ha, EReal.right_distrib_of_nonneg_of_ne_top hs ht, ih, mul_assoc]
  exact key _

/-- Two columns of the same number give one product. -/
theorem Zc {h : FVec Ideal S16384x2048 .bf16} (x : FVec Ideal S2x2048x23600 .f32) {i : Fin 16384} (n n' : Fin 23600) (e : n.val = n'.val) :
    (∑ k : Fin 2048, h (ix2 i k) * x (ix3 0 k n) : EReal) = Z h x i n' := by
  obtain rfl := Fin.ext e; rfl

set_option maxHeartbeats 1600000 in
/-- What the body stores at an index of its block is the reference at the place of that index. -/
theorem point (c : Dev nD) (t : Fin cfg0.N) (a : Fin 1024) (n : Fin 2560) (i : Fin 16384) (j : Fin 17920)
    (h0 : i.val = t.val / 7 * 1024 + a.val) (h1 : j.val = t.val % 7 * 2560 + n.val) :
    k0_pay1 (iblk m c 0 t) (X0_1 m c t) (ix2 a n) = REF m c (ix2 i j) := by
  have e0 := fun b => rd0 m c t a b i h0
  have e1 := fun x => ((rd1 m c t n x (⟨j.val, by omega⟩ : Fin 24064) h1).trans (congrFun (V_main_v14 m c) _)).trans (wt _ _ _)
  pointwise [k0_pay1, REF, val_main_v4, val_main_v5, val_main_v6, val_main_v7, val_main_v8, val_main_v10, val_main_v11, val_main_v12, val_main_v13, val_main_cst, val_main_v19, val_main_v20, val_main_v21, val_main_v22]
  simp only [e0, e1, gt, z3, gref]
  generalize m ((c : Thread nD τ).loc main_arg0) = h
  generalize m ((c : Thread nD τ).loc main_arg1) = w
  by_cases c1 : j.val < 2048
  · simp only [c1, ↓reduceDIte]; exact (sum_scale _ _).symm
  simp only [c1, ↓reduceDIte]
  by_cases c2 : j.val - 2048 < 12288
  · simp only [c2, ↓reduceDIte]
    split_ifs <;> first | omega | (refine Zc w _ _ ?_; first | (dsimp only; done) | (dsimp only; omega))
  simp only [c2, ↓reduceDIte]
  by_cases c3 : j.val - 2048 - 12288 < 3072
  · simp only [c3, ↓reduceDIte]
    split_ifs <;> first | omega | (refine Zc w _ _ ?_; first | (dsimp only; done) | (dsimp only; omega))
  have c4 : j.val - 2048 - 12288 - 3072 < 512 := by omega
  simp only [c3, c4, ↓reduceDIte]
  split_ifs <;> first | omega | (refine Zc w _ _ ?_; first | (dsimp only; done) | (dsimp only; omega)) | simp

/-- The same over an index of the block and an index of the array. -/
theorem whole (c : Dev nD) (t : Fin cfg0.N) (y : S1024x2560.Idx) (j : S16384x17920.Idx)
    (h0 : (j 0).val = t.val / 7 * 1024 + (y 0).val) (h1 : (j 1).val = t.val % 7 * 2560 + (y 1).val) :
    k0_pay1 (iblk m c 0 t) (X0_1 m c t) y = REF m c j := by
  have h := point m c t (y 0) (y 1) (j 0) (j 1) h0 h1
  have ey : y = ix2 (y 0) (y 1) := by funext a; match a with | 0 => rfl | 1 => rfl
  have ej : j = ix2 (j 0) (j 1) := by funext a; match a with | 0 => rfl | 1 => rfl
  rw [ey, ej]; exact h

/-- The result array after the run. -/
theorem final (c : Dev nD) : (dats m 0 c).arrAt 2 (cfgs 0).N = REF m c := by
  refine (dats m 0 c).arrAt_eq_of_covers 2 _ (by decide +kernel) fun t _ y => ?_
  blk_simp
  rw [after0_2]; unfold outsAt0; frame_out
  refine whole m c t y _ ?_ ?_ <;> blk_simp [idx t]

end Cert.ProjIdeal.RefValue

end
-- ==== Proof.OutValue.lean ====
/- The value of the output projection: the array the tiled kernel leaves is, index by index, the reference's residual
   `x + gate (y W_out)` normalised by its root mean square and scaled by `g`, over the extended reals. -/
module

public import proofs.«01_k».proof.Proof.Gen.OutIdeal.Value
public import proofs.«01_k».proof.Proof.Gen.OutRefIdeal.Read
public import Idealize.ShloMosaic.Lib.Pipeline.ValueKit

@[expose] public section

set_option maxRecDepth 16384

noncomputable section

open Idealize.ShloMosaic Idealize.ShloMosaic.TcCoe Idealize.SL.Sem
open Idealize.ShloMosaic.Pipeline (Dat)

namespace Cert.OutIdeal.RefValue

open Cert.OutIdeal Cert.OutIdeal.Gen
open Cert.OutRefIdeal.Read

variable (m : (ℓ : Loc nD τ sig) → Buf (Elt Ideal) ℓ)

/-- The reference's result, of the kernel's own argument arrays. -/
abbrev REF (c : Dev nD) : FVec Ideal S16384x2048 .f32 :=
  val_main_v23 (F := Ideal) (m ((c : Thread nD τ).loc main_arg0)) (m ((c : Thread nD τ).loc main_arg1)) (m ((c : Thread nD τ).loc main_arg2)) (m ((c : Thread nD τ).loc main_arg3)) (m ((c : Thread nD τ).loc main_arg4))

/-- Where each window stands at a grid point. -/
theorem idx : ∀ t : Fin cfg0.N, win0_0.index t = ![t.val, 0] ∧ win0_1.index t = ![0, 0] ∧ win0_2.index t = ![t.val, 0]
    ∧ win0_3.index t = ![t.val / 4, 0, 0] ∧ win0_4.index t = ![0, 0] ∧ win0_5.index t = ![t.val, 0] ∧ t.val < 32 :=
  (by decide +kernel : ∀ t : Fin grid0.N, _)

/-- Each input block read at an index is its argument array read where the block stands. -/
theorem rd0 (c : Dev nD) (t : Fin cfg0.N) (a : Fin 512) (b : Fin 2048) (i : Fin 16384) (h : i.val = t.val * 512 + a.val) :
    iblk m c 0 t (ix2 a b) = m ((c : Thread nD τ).loc main_arg0) (ix2 i b) := by
  blk_ext! [iblk, V, idx t]
theorem rd1 (c : Dev nD) (t : Fin cfg0.N) (a b : Fin 2048) :
    iblk m c 1 t (ix2 a b) = m ((c : Thread nD τ).loc main_arg1) (ix2 a b) := by
  blk_ext! [iblk, V, idx t]
theorem rd2 (c : Dev nD) (t : Fin cfg0.N) (a : Fin 512) (b : Fin 2048) (i : Fin 16384) (h : i.val = t.val * 512 + a.val) :
    iblk m c 2 t (ix2 a b) = m ((c : Thread nD τ).loc main_arg2) (ix3 (⟨i.val / 2048, by omega⟩ : Fin 8) (⟨i.val % 2048, by omega⟩ : Fin 2048) b) := by
  blk_ext! [iblk, V, idx t]
theorem rd3 (c : Dev nD) (t : Fin cfg0.N) (a : Fin 512) (b : Fin 2048) (i : Fin 16384) (h : i.val = t.val * 512 + a.val) :
    iblk m c 3 t (ix3 0 2 b) = m ((c : Thread nD τ).loc main_arg3) (ix2 (⟨i.val / 2048, by omega⟩ : Fin 8) (⟨4096 + b.val, by omega⟩ : Fin 6144)) := by
  blk_ext! [iblk, V, idx t]
theorem rd4 (c : Dev nD) (t : Fin cfg0.N) (b : Fin 2048) :
    iblk m c 4 t (ix2 0 b) = m ((c : Thread nD τ).loc main_arg4) (ix1 b) := by
  blk_ext! [iblk, V, idx t]

/-- What the body stores at an index of its block is the reference at the place of that index. -/
theorem point (c : Dev nD) (t : Fin cfg0.N) (a : Fin 512) (b : Fin 2048) (i : Fin 16384) (h : i.val = t.val * 512 + a.val) :
    k0_pay1 (iblk m c 2 t) (View.ld (iblk m c 3 t) r0_1) (iblk m c 0 t) (iblk m c 1 t) (iblk m c 4 t) (ix2 a b) = REF m c (ix2 i b) := by
  pointwise [k0_pay1, REF, val_main_v0, val_main_v1, val_main_v2, val_main_v3, val_main_v4, val_main_v5, val_main_v6, val_main_v7, val_main_v8, val_main_v9, val_main_v10, val_main_cst, val_main_v11, val_main_v12, val_main_cst_0, val_main_v13, val_main_v14, val_main_cst_1, val_main_v15, val_main_v16, val_main_v17, val_main_v18, val_main_v19, val_main_v20, val_main_v21, val_main_v22, val_main_v23]
  have e0 := fun b => rd0 m c t a b i h
  have e2 := fun b => rd2 m c t a b i h
  have e3 := fun b => rd3 m c t a b i h
  simp only [e0, e2, e3, rd1, rd4]

/-- The same over an index of the block and an index of the array. -/
theorem whole (c : Dev nD) (t : Fin cfg0.N) (y : S512x2048.Idx) (j : S16384x2048.Idx)
    (h0 : (j 0).val = t.val * 512 + (y 0).val) (h1 : (j 1).val = (y 1).val) :
    k0_pay1 (iblk m c 2 t) (View.ld (iblk m c 3 t) r0_1) (iblk m c 0 t) (iblk m c 1 t) (iblk m c 4 t) y = REF m c j := by
  have h := point m c t (y 0) (y 1) (j 0) h0
  have ey : y = ix2 (y 0) (y 1) := by funext a; match a with | 0 => rfl | 1 => rfl
  have ej : j = ix2 (j 0) (y 1) := by funext a; match a with | 0 => rfl | 1 => exact Fin.ext h1
  rw [ey, ej]; exact h

/-- The result array after the run. -/
theorem final (c : Dev nD) : (dats m 0 c).arrAt 5 (cfgs 0).N = REF m c := by
  refine (dats m 0 c).arrAt_eq_of_covers 5 _ (by decide +kernel) fun t _ y => ?_
  blk_simp
  rw [after0_5]; frame_out
  refine whole m c t y _ ?_ ?_ <;> blk_simp [idx t]

end Cert.OutIdeal.RefValue

end
-- ==== Proof.PoolWindow.lean ====
/- The reference's window sum over the tokens of a sequence, as the sum of the tokens back from an index. -/
module

public import proofs.«01_k».proof.Proof.Gen.PoolRefIdeal.Read
public import Idealize.ShloMosaic.Lib.Pipeline.ValueKit

@[expose] public section

noncomputable section

open Idealize.ShloMosaic Idealize.ShloMosaic.TcCoe

namespace Cert.PoolRefIdeal.Window

open Cert.PoolRefIdeal

/-- A fold of additions from zero is the sum. -/
theorem fold_sum {α : Type} (L : List α) (f : α → EReal) (r : EReal) : L.foldl (fun r n => r + f n) r = r + (L.map f).sum := by
  induction L generalizing r with
  | nil => simp
  | cons a L ih => simp [ih, add_assoc]

/-- A window `[1, w, 1]` of a sequence, padded by one less low, at an index: the sum of the last `w` tokens, nothing before the first. -/
theorem win_sum (w p : ℕ) (hw : p + 1 = w) (X : S8x2048x512.Idx → EReal) (v : EReal) (hv : v = 0)
    (ev : S8x2048x512.ReduceWindows ![1, w, 1] ![1, 1, 1] ![0, p, 0] ![0, 0, 0] S8x2048x512) (b : Fin 8) (l : Fin 2048) (c : Fin 512) :
    Ideal.hostReduceWindowAdd ![1, w, 1] ![1, 1, 1] ![0, p, 0] ![0, 0, 0] ev X v (ix3 b l c)
      = ∑ d ∈ Finset.range w, (if h : d ≤ l.val then X (ix3 b (⟨l.val - d, by omega⟩ : Fin 2048) c) else 0) := by
  subst hv
  unfold Ideal.hostReduceWindowAdd Host.reduceWindow
  dsimp only
  rw [fold_sum, zero_add]
  have hN : Shape.numel ⟨3, ![1, w, 1]⟩ = w := by simp [Shape.numel, Fin.prod_univ_three]
  have e : ∀ n : Fin (Shape.numel ⟨3, ![1, w, 1]⟩), (((⟨3, ![1, w, 1]⟩ : Shape).rowMajor.symm n) 0).val = 0
      ∧ (((⟨3, ![1, w, 1]⟩ : Shape).rowMajor.symm n) 1).val = n.val ∧ (((⟨3, ![1, w, 1]⟩ : Shape).rowMajor.symm n) 2).val = 0 := fun n => by
    have h := Shape.rowMajor_val_three (((⟨3, ![1, w, 1]⟩ : Shape).rowMajor.symm n))
    rw [Equiv.apply_symm_apply] at h
    have h0 : (((⟨3, ![1, w, 1]⟩ : Shape).rowMajor.symm n) 0).val < 1 := (((⟨3, ![1, w, 1]⟩ : Shape).rowMajor.symm n) 0).isLt
    have h2 : (((⟨3, ![1, w, 1]⟩ : Shape).rowMajor.symm n) 2).val < 1 := (((⟨3, ![1, w, 1]⟩ : Shape).rowMajor.symm n) 2).isLt
    have z0 := Nat.lt_one_iff.mp h0
    have z2 := Nat.lt_one_iff.mp h2
    refine ⟨z0, ?_, z2⟩
    rw [z0, z2] at h
    have h' : n.val = (0 * w + (((⟨3, ![1, w, 1]⟩ : Shape).rowMajor.symm n) 1).val) * 1 + 0 := h
    omega
  rw [← List.ofFn_eq_map, List.sum_ofFn]
  let G : ℕ → EReal := fun n => if h : p ≤ l.val + n ∧ l.val + n - p < 2048 then X (ix3 b (⟨l.val + n - p, h.2⟩ : Fin 2048) c) else 0
  trans ∑ n : Fin (Shape.numel ⟨3, ![1, w, 1]⟩), G n.val
  · refine Finset.sum_congr rfl fun n _ => ?_
    obtain ⟨e0, e1, e2⟩ := e n
    by_cases h : p ≤ l.val + n.val ∧ l.val + n.val - p < 2048
    · have hin : ∀ a : Fin 3, (![0, p, 0] : Fin 3 → ℕ) a ≤ ((ix3 b l c : S8x2048x512.Idx) a).val * (![1, 1, 1] : Fin 3 → ℕ) a + (((⟨3, ![1, w, 1]⟩ : Shape).rowMajor.symm n) a).val
          ∧ ((ix3 b l c : S8x2048x512.Idx) a).val * (![1, 1, 1] : Fin 3 → ℕ) a + (((⟨3, ![1, w, 1]⟩ : Shape).rowMajor.symm n) a).val - (![0, p, 0] : Fin 3 → ℕ) a < S8x2048x512.size a := fun a => by
        match a with
        | 0 => show 0 ≤ b.val * 1 + _ ∧ b.val * 1 + _ - 0 < 8; rw [e0]; omega
        | 1 => show p ≤ l.val * 1 + _ ∧ l.val * 1 + _ - p < 2048; rw [e1]; omega
        | 2 => show 0 ≤ c.val * 1 + _ ∧ c.val * 1 + _ - 0 < 512; rw [e2]; omega
      refine (dif_pos hin).trans (Eq.trans ?_ (show _ = G n.val from (dif_pos h).symm))
      refine congrArg X (funext fun a => Fin.ext ?_)
      match a with
      | 0 => show b.val * 1 + _ - 0 = b.val; rw [e0]; omega
      | 1 => show l.val * 1 + _ - p = l.val + n.val - p; rw [e1]; omega
      | 2 => show c.val * 1 + _ - 0 = c.val; rw [e2]; omega
    · refine (dif_neg fun hin => h ?_).trans (by show (0 : EReal) = (if h : p ≤ l.val + n.val ∧ l.val + n.val - p < 2048 then _ else 0); rw [dif_neg h])
      have h1 : p ≤ l.val * 1 + (((⟨3, ![1, w, 1]⟩ : Shape).rowMajor.symm n) 1).val ∧ l.val * 1 + (((⟨3, ![1, w, 1]⟩ : Shape).rowMajor.symm n) 1).val - p < 2048 := hin 1
      rw [e1] at h1
      omega
  · rw [Fin.sum_univ_eq_sum_range G, hN, ← Finset.sum_range_reflect]
    refine Finset.sum_congr rfl fun d hd => ?_
    have hd' := Finset.mem_range.mp hd
    by_cases h : d ≤ l.val
    · rw [dif_pos h]
      refine (dif_pos (by omega)).trans (congrArg X ?_)
      exact congrArg (fun z => ix3 b z c) (Fin.ext (by show l.val + (w - 1 - d) - p = l.val - d; omega))
    · rw [dif_neg h]
      exact dif_neg (by omega)

end Cert.PoolRefIdeal.Window

end
-- ==== Proof.PoolScratch.lean ====
/- The pooling mixer's scratch arrays: what a load of the extended tokens, or of a level of partial sums, reads after the stores
   before it, as sums over a window of rows. -/
module

public import proofs.«01_k».proof.Proof.Gen.PoolIdeal.Value
public import Idealize.ShloMosaic.Lib.Pipeline.ValueKit
public import Idealize.ShloMosaic.Lib.WholeRead

@[expose] public section

set_option maxRecDepth 16384

noncomputable section

open Idealize.ShloMosaic Idealize.ShloMosaic.TcCoe Idealize.SL.Sem
open Idealize.ShloMosaic.Pipeline (Dat)

namespace Cert.PoolIdeal.RefValue

open Cert.PoolIdeal Cert.PoolIdeal.Gen

/-- What a list of stores leaves at a row and a column of the extended tokens. -/
def EE (L : List (View.Piece (Elt Ideal) S544x2048 .f32)) (r k : ℕ) : EReal :=
  if h : r < 544 ∧ k < 2048 then View.canon L (ix2 (⟨r, h.1⟩ : Fin 544) (⟨k, h.2⟩ : Fin 2048)) else 0

/-- What a list of stores leaves at a level, a row and a column of the partial sums. -/
def EL (L : List (View.Piece (Elt Ideal) S3x544x2048 .f32)) (j r k : ℕ) : EReal :=
  if h : j < 3 ∧ r < 544 ∧ k < 2048 then View.canon L (ix3 (⟨j, h.1⟩ : Fin 3) (⟨r, h.2.1⟩ : Fin 544) (⟨k, h.2.2⟩ : Fin 2048)) else 0

/-- A store that covers an index leaves its payload there. -/
theorem canon_hit {s : Shape} {e : EltTy} {off size : Fin s.rank → ℕ} (inb : ∀ a, off a + size a ≤ s.size a)
    (w : (Rect.unit (s := s) off size inb).shape.Idx → Elt Ideal e) (L : List (View.Piece (Elt Ideal) s e)) (y : s.Idx) (x : (Rect.unit (s := s) off size inb).shape.Idx)
    (h : ∀ a, (y a).val = off a + (x a).val) : View.canon (⟨Rect.unit off size inb, w⟩ :: L) y = w x := by
  have e : y = (Rect.unit (s := s) off size inb).emb x := by
    funext a; refine Fin.ext ((h a).trans ?_)
    show off a + (x a).val = off a + 1 * (x a).val
    omega
  rw [e]; exact View.canon_cons_emb _ w L x

/-- A store that misses an index leaves what was there. -/
theorem canon_miss {s : Shape} {e : EltTy} {off size : Fin s.rank → ℕ} (inb : ∀ a, off a + size a ≤ s.size a)
    (w : (Rect.unit (s := s) off size inb).shape.Idx → Elt Ideal e) (L : List (View.Piece (Elt Ideal) s e)) (y : s.Idx) (a : Fin s.rank)
    (h : (y a).val < off a ∨ off a + size a ≤ (y a).val) : View.canon (⟨Rect.unit off size inb, w⟩ :: L) y = View.canon L y := by
  refine View.canon_cons_of_not_mem _ L fun hm => ?_
  have := (Rect.mem_set_unit (inb := inb)).mp hm a
  omega

/-- A load of a box of the extended tokens. -/
theorem cov2 {M : Memref sig .tc .vmem S544x2048 .f32} (L : List (View.Piece (Elt Ideal) S544x2048 .f32)) {o C p q : ℕ}
    (inb : ∀ d, (![o, C] : Fin 2 → ℕ) d + (![p, q] : Fin 2 → ℕ) d ≤ S544x2048.size d) (a : Fin p) (b : Fin q) :
    M.view.readCov L (Rect.unit (s := S544x2048) ![o, C] ![p, q] inb).toLoadRect (ix2 a b) = EE L (o + a.val) (C + b.val) := by
  have h0 := inb 0
  have h1 := inb 1
  have g0 : o + p ≤ 544 := h0
  have g1 : C + q ≤ 2048 := h1
  rw [View.readCov_eq_canon']
  unfold EE
  rw [dif_pos ⟨by omega, by omega⟩]
  refine congrArg (View.canon L) (funext fun d => Fin.ext ?_)
  match d with
  | 0 => show o + 1 * a.val = o + a.val; omega
  | 1 => show C + 1 * b.val = C + b.val; omega

/-- A load of a box of a level of the partial sums. -/
theorem cov3 {M : Memref sig .tc .vmem S3x544x2048 .f32} (L : List (View.Piece (Elt Ideal) S3x544x2048 .f32)) {j o C p q : ℕ}
    (inb0 : ∀ d, (![j, 0, 0] : Fin 3 → ℕ) d + (![1, 544, 2048] : Fin 3 → ℕ) d ≤ S3x544x2048.size d)
    (inb : ∀ d, (![o, C] : Fin 2 → ℕ) d + (![p, q] : Fin 2 → ℕ) d ≤ S544x2048.size d) (h0 hs h1) (hv) (a : Fin p) (b : Fin q) :
    (LoadRect.valAlong (lr := (Rect.unit (s := S544x2048) ![o, C] ![p, q] inb).toLoadRect) hv (M.view.readCov L ((Rect.unit (s := S3x544x2048) ![j, 0, 0] ![1, 544, 2048] inb0).withinL
      ((Rect.unit (s := S544x2048) ![o, C] ![p, q] inb).toLoadRect.consLift ![1, 544, 2048] h0 hs) h1)) : (⟨2, ![p, q]⟩ : Shape).Idx → EReal) (ix2 a b) = EL L j (o + a.val) (C + b.val) := by
  have g0 : o + p ≤ 544 := inb 0
  have g1 : C + q ≤ 2048 := inb 1
  have g2 : j + 1 ≤ 3 := inb0 0
  rw [View.readCov_eq_canon']
  unfold EL
  rw [dif_pos ⟨by omega, by omega, by omega⟩]
  refine congrArg (View.canon L) ?_
  have hx := Shape.reshapeEquiv_cons_one (d := (![p, q] : Fin 2 → ℕ)) hv (ix2 a b)
  refine (congrArg _ hx).trans (funext fun d => Fin.ext ?_)
  match d with
  | 0 => show j + 0 + 1 * 0 = j; omega
  | 1 => show 0 + o + 1 * a.val = o + a.val; omega
  | 2 => show 0 + C + 1 * b.val = C + b.val; omega

/-- The store last made at a level, read where it stands. -/
theorem el_hit {j o C p q : ℕ} (inb : ∀ d, (![j, o, C] : Fin 3 → ℕ) d + (![1, p, q] : Fin 3 → ℕ) d ≤ S3x544x2048.size d)
    (w : (⟨3, ![1, p, q]⟩ : Shape).Idx → EReal) (L : List (View.Piece (Elt Ideal) S3x544x2048 .f32)) (a : Fin p) (b : Fin q) :
    EL (⟨Rect.unit (s := S3x544x2048) ![j, o, C] ![1, p, q] inb, w⟩ :: L) j (o + a.val) (C + b.val) = w (ix3 0 a b) := by
  have g0 : o + p ≤ 544 := inb 1
  have g1 : C + q ≤ 2048 := inb 2
  have g2 : j + 1 ≤ 3 := inb 0
  unfold EL
  rw [dif_pos ⟨by omega, by omega, by omega⟩]
  refine canon_hit inb w L _ _ fun d => ?_
  match d with
  | 0 => rfl
  | 1 => rfl
  | 2 => rfl

/-- The sum of a power of two of rows ending at a row, as the levels add it up. -/
def lev (e : ℕ → EReal) : ℕ → ℕ → EReal
  | 0, r => e r
  | k + 1, r => lev e k r + lev e k (r - 2 ^ k)

/-- It is the sum over the window. -/
theorem lev_sum (e : ℕ → EReal) (k r : ℕ) : lev e k r = ∑ d ∈ Finset.range (2 ^ k), e (r - d) := by
  induction k generalizing r with
  | zero => simp [lev]
  | succ k ih =>
    rw [lev, ih, ih, pow_succ, Nat.mul_two, Finset.sum_range_add]
    simp only [Nat.sub_sub]

section

variable (c : Dev nD) (i : grid0.Coords) (arg1 : Memref sig .tc .vmem S512x2048 .bf16) (harg1 : arg1.IsWhole) (arg2 : Memref sig .tc .vmem S16x2048 .bf16) (harg2 : arg2.IsWhole) (arg7 : Memref sig .tc .vmem S544x2048 .f32) (arg8 : Memref sig .tc .vmem S3x544x2048 .f32)
    (x0 : Vec Ideal S512x2048 .bf16) (x1 : Vec Ideal S16x2048 .bf16)

/-- The extended tokens the body reads. -/
abbrev TK := kernelRun0_A.sl.HS0_3 (F := Ideal) c i arg1 harg1 arg2 harg2 x0 x1

/-- The extended tokens of one column. -/
abbrev col (k : ℕ) : ℕ → EReal := fun r => EE (TK c i arg1 harg1 arg2 harg2 x0 x1) r k

/-- Level 1 from column 512 on. -/
theorem at_HS1_1 (a : Fin 520) (b : Fin 512) : EL (kernelRun0_A.sl.HS1_1 (F := Ideal) c i arg1 harg1 arg2 harg2 arg7 x0 x1) 0 (24 + a.val) (512 + b.val) = lev (col c i arg1 harg1 arg2 harg2 x0 x1 (512 + b.val)) 1 (24 + a.val) := by
  unfold kernelRun0_A.sl.HS1_1
  refine (el_hit _ _ _ a b).trans ?_
  have e : ∀ u v : Vec Ideal S520x512 .f32, k0_pay7 u v (ix3 0 a b) = u (ix2 a b) + v (ix2 a b) := fun u v => by pointwise [k0_pay7]
  refine (e _ _).trans (congrArg₂ (· + ·) (cov2 (M := arg7) _ _ a b) ((cov2 (M := arg7) _ _ a b).trans ?_))
  exact congrArg (fun r => EE (TK c i arg1 harg1 arg2 harg2 x0 x1) r (512 + b.val)) (show _ = 24 + a.val - 1 by omega)

/-- Level 1 from column 1024 on. -/
theorem at_HS1_2 (a : Fin 528) (b : Fin 512) : EL (kernelRun0_A.sl.HS1_2 (F := Ideal) c i arg1 harg1 arg2 harg2 arg7 x0 x1) 0 (16 + a.val) (1024 + b.val) = lev (col c i arg1 harg1 arg2 harg2 x0 x1 (1024 + b.val)) 1 (16 + a.val) := by
  unfold kernelRun0_A.sl.HS1_2
  refine (el_hit _ _ _ a b).trans ?_
  have e : ∀ u v : Vec Ideal S528x512 .f32, k0_pay9 u v (ix3 0 a b) = u (ix2 a b) + v (ix2 a b) := fun u v => by pointwise [k0_pay9]
  refine (e _ _).trans (congrArg₂ (· + ·) (cov2 (M := arg7) _ _ a b) ((cov2 (M := arg7) _ _ a b).trans ?_))
  exact congrArg (fun r => EE (TK c i arg1 harg1 arg2 harg2 x0 x1) r (1024 + b.val)) (show _ = 16 + a.val - 1 by omega)

/-- Level 2 from column 1024 on. -/
theorem at_HS1_3 (a : Fin 520) (b : Fin 512) : EL (kernelRun0_A.sl.HS1_3 (F := Ideal) c i arg1 harg1 arg2 harg2 arg7 arg8 x0 x1) 1 (24 + a.val) (1024 + b.val) = lev (col c i arg1 harg1 arg2 harg2 x0 x1 (1024 + b.val)) 2 (24 + a.val) := by
  unfold kernelRun0_A.sl.HS1_3
  refine (el_hit _ _ _ a b).trans ?_
  have e : ∀ u v : Vec Ideal S520x512 .f32, k0_pay10 u v (ix3 0 a b) = u (ix2 a b) + v (ix2 a b) := fun u v => by pointwise [k0_pay10]
  refine (e _ _).trans (congrArg₂ (· + ·) ((cov3 (M := arg8) _ _ _ _ _ _ _ a b).trans ?_) ((cov3 (M := arg8) _ _ _ _ _ _ _ a b).trans ?_))
  · refine Eq.trans ?_ ((at_HS1_2 c i arg1 harg1 arg2 harg2 arg7 x0 x1 (⟨8 + a.val, by omega⟩ : Fin _) b).trans ?_)
    · exact congrArg (fun r => EL _ 0 r (1024 + b.val)) (show 24 + a.val = 16 + (8 + a.val) by omega)
    · exact congrArg (lev _ 1) (show 16 + (8 + a.val) = 24 + a.val by omega)
  · refine Eq.trans ?_ ((at_HS1_2 c i arg1 harg1 arg2 harg2 arg7 x0 x1 (⟨6 + a.val, by omega⟩ : Fin _) b).trans ?_)
    · exact congrArg (fun r => EL _ 0 r (1024 + b.val)) (show 22 + a.val = 16 + (6 + a.val) by omega)
    · exact congrArg (lev _ 1) (show 16 + (6 + a.val) = 24 + a.val - 2 by omega)

/-- Level 1 from column 1536 on. -/
theorem at_HS1_4 (a : Fin 536) (b : Fin 512) : EL (kernelRun0_A.sl.HS1_4 (F := Ideal) c i arg1 harg1 arg2 harg2 arg7 arg8 x0 x1) 0 (8 + a.val) (1536 + b.val) = lev (col c i arg1 harg1 arg2 harg2 x0 x1 (1536 + b.val)) 1 (8 + a.val) := by
  unfold kernelRun0_A.sl.HS1_4
  refine (el_hit _ _ _ a b).trans ?_
  have e : ∀ u v : Vec Ideal S536x512 .f32, k0_pay13 u v (ix3 0 a b) = u (ix2 a b) + v (ix2 a b) := fun u v => by pointwise [k0_pay13]
  refine (e _ _).trans (congrArg₂ (· + ·) (cov2 (M := arg7) _ _ a b) ((cov2 (M := arg7) _ _ a b).trans ?_))
  exact congrArg (fun r => EE (TK c i arg1 harg1 arg2 harg2 x0 x1) r (1536 + b.val)) (show _ = 8 + a.val - 1 by omega)

/-- Level 2 from column 1536 on. -/
theorem at_HS1_5 (a : Fin 528) (b : Fin 512) : EL (kernelRun0_A.sl.HS1_5 (F := Ideal) c i arg1 harg1 arg2 harg2 arg7 arg8 x0 x1) 1 (16 + a.val) (1536 + b.val) = lev (col c i arg1 harg1 arg2 harg2 x0 x1 (1536 + b.val)) 2 (16 + a.val) := by
  unfold kernelRun0_A.sl.HS1_5
  refine (el_hit _ _ _ a b).trans ?_
  have e : ∀ u v : Vec Ideal S528x512 .f32, k0_pay14 u v (ix3 0 a b) = u (ix2 a b) + v (ix2 a b) := fun u v => by pointwise [k0_pay14]
  refine (e _ _).trans (congrArg₂ (· + ·) ((cov3 (M := arg8) _ _ _ _ _ _ _ a b).trans ?_) ((cov3 (M := arg8) _ _ _ _ _ _ _ a b).trans ?_))
  · refine Eq.trans ?_ ((at_HS1_4 c i arg1 harg1 arg2 harg2 arg7 arg8 x0 x1 (⟨8 + a.val, by omega⟩ : Fin _) b).trans ?_)
    · exact congrArg (fun r => EL _ 0 r (1536 + b.val)) (show 16 + a.val = 8 + (8 + a.val) by omega)
    · exact congrArg (lev _ 1) (show 8 + (8 + a.val) = 16 + a.val by omega)
  · refine Eq.trans ?_ ((at_HS1_4 c i arg1 harg1 arg2 harg2 arg7 arg8 x0 x1 (⟨6 + a.val, by omega⟩ : Fin _) b).trans ?_)
    · exact congrArg (fun r => EL _ 0 r (1536 + b.val)) (show 14 + a.val = 8 + (6 + a.val) by omega)
    · exact congrArg (lev _ 1) (show 8 + (6 + a.val) = 16 + a.val - 2 by omega)

/-- Level 3 from column 1536 on. -/
theorem at_HS1_6 (a : Fin 520) (b : Fin 512) : EL (kernelRun0_A.sl.HS1_6 (F := Ideal) c i arg1 harg1 arg2 harg2 arg7 arg8 x0 x1) 2 (24 + a.val) (1536 + b.val) = lev (col c i arg1 harg1 arg2 harg2 x0 x1 (1536 + b.val)) 3 (24 + a.val) := by
  unfold kernelRun0_A.sl.HS1_6
  refine (el_hit _ _ _ a b).trans ?_
  have e : ∀ u v : Vec Ideal S520x512 .f32, k0_pay15 u v (ix3 0 a b) = u (ix2 a b) + v (ix2 a b) := fun u v => by pointwise [k0_pay15]
  refine (e _ _).trans (congrArg₂ (· + ·) ((cov3 (M := arg8) _ _ _ _ _ _ _ a b).trans ?_) ((cov3 (M := arg8) _ _ _ _ _ _ _ a b).trans ?_))
  · refine Eq.trans ?_ ((at_HS1_5 c i arg1 harg1 arg2 harg2 arg7 arg8 x0 x1 (⟨8 + a.val, by omega⟩ : Fin _) b).trans ?_)
    · exact congrArg (fun r => EL _ 1 r (1536 + b.val)) (show 24 + a.val = 16 + (8 + a.val) by omega)
    · exact congrArg (lev _ 2) (show 16 + (8 + a.val) = 24 + a.val by omega)
  · refine Eq.trans ?_ ((at_HS1_5 c i arg1 harg1 arg2 harg2 arg7 arg8 x0 x1 (⟨4 + a.val, by omega⟩ : Fin _) b).trans ?_)
    · exact congrArg (fun r => EL _ 1 r (1536 + b.val)) (show 20 + a.val = 16 + (4 + a.val) by omega)
    · exact congrArg (lev _ 2) (show 16 + (4 + a.val) = 24 + a.val - 4 by omega)

end

end Cert.PoolIdeal.RefValue

end
-- ==== Proof.PoolBlock.lean ====
/- The pooling mixer's block: each group of columns is the window's mean less the token, mixed by the group's weights, scaled and gated. -/
module

public import proofs.«01_k».proof.Proof.PoolScratch
public import Idealize.ShloMosaic.Lib.WordCmp

@[expose] public section

set_option maxRecDepth 16384

noncomputable section

open Idealize.ShloMosaic Idealize.ShloMosaic.TcCoe Idealize.SL.Sem
open Idealize.ShloMosaic.Pipeline (Dat)

namespace Cert.PoolIdeal.RefValue

open Cert.PoolIdeal Cert.PoolIdeal.Gen

/-- A load of a box of a whole three-axis buffer, at an index. -/
theorem read3 {A B C a b c : ℕ} {e : EltTy} {M : Memref sig .tc .vmem ⟨3, ![A, B, C]⟩ e} (h : M.IsWhole) (X : Shape.Idx ⟨3, ![A, B, C]⟩ → Elt Ideal e)
    {j r o : ℕ} (inb : ∀ d, (![j, r, o] : Fin 3 → ℕ) d + (![a, b, c] : Fin 3 → ℕ) d ≤ (⟨3, ![A, B, C]⟩ : Shape).size d)
    (x : Fin a) (y : Fin b) (z : Fin c) (p : Fin A) (q : Fin B) (w : Fin C)
    (hp : p.val = j + x.val) (hq : q.val = r + y.val) (hw : w.val = o + z.val) :
    View.readAt (Elt Ideal) M.view (Rect.unit (s := ⟨3, ![A, B, C]⟩) ![j, r, o] ![a, b, c] inb).toLoadRect (h.unread X) (ix3 x y z) = X (ix3 p q w) := by
  rw [h.readAt_unread]
  refine congrArg X (funext fun d => Fin.ext ?_)
  fin_cases d <;> simp [hp, hq, hw] <;> rfl

/-- A load of a box of a whole two-axis buffer, at an index. -/
theorem read2 {A B a b : ℕ} {e : EltTy} {M : Memref sig .tc .vmem ⟨2, ![A, B]⟩ e} (h : M.IsWhole) (X : Shape.Idx ⟨2, ![A, B]⟩ → Elt Ideal e)
    {j r : ℕ} (inb : ∀ d, (![j, r] : Fin 2 → ℕ) d + (![a, b] : Fin 2 → ℕ) d ≤ (⟨2, ![A, B]⟩ : Shape).size d)
    (x : Fin a) (y : Fin b) (p : Fin A) (q : Fin B) (hp : p.val = j + x.val) (hq : q.val = r + y.val) :
    View.readAt (Elt Ideal) M.view (Rect.unit (s := ⟨2, ![A, B]⟩) ![j, r] ![a, b] inb).toLoadRect (h.unread X) (ix2 x y) = X (ix2 p q) := by
  rw [h.readAt_unread]
  refine congrArg X (funext fun d => Fin.ext ?_)
  fin_cases d <;> simp [hp, hq] <;> rfl

/-- The number of tokens the window of `w` holds at position `l`, as a number. -/
def cntN (l w : ℕ) : EReal := FloatOps.sitofp (F := Ideal) .f32 (BitVec.ofNat 32 (min (l + 1) w))

/-- A row's position in its sequence. -/
theorem pos_at (i : grid0.Coords) (a : Fin 512) : k0_pay5 i (ix2 a 0) = BitVec.ofNat 32 ((i 0).val % 4 * 512 + a.val) := by
  have h : ∀ n : Fin 32, (Scalar.muli (Scalar.select (Scalar.andi (Scalar.xori (Scalar.cmpi CmpIPredicate.slt (Scalar.remsi (BitVec.ofNat 32 n.val) (Scalar.select (Scalar.cmpi CmpIPredicate.eq 4#32 0#32) 1#32 4#32)) 0#32)
      (Scalar.cmpi CmpIPredicate.slt (Scalar.select (Scalar.cmpi CmpIPredicate.eq 4#32 0#32) 1#32 4#32) 0#32))
      (Scalar.cmpi CmpIPredicate.ne (Scalar.remsi (BitVec.ofNat 32 n.val) (Scalar.select (Scalar.cmpi CmpIPredicate.eq 4#32 0#32) 1#32 4#32)) 0#32))
      (Scalar.addi (Scalar.remsi (BitVec.ofNat 32 n.val) (Scalar.select (Scalar.cmpi CmpIPredicate.eq 4#32 0#32) 1#32 4#32)) (Scalar.select (Scalar.cmpi CmpIPredicate.eq 4#32 0#32) 1#32 4#32))
      (Scalar.remsi (BitVec.ofNat 32 n.val) (Scalar.select (Scalar.cmpi CmpIPredicate.eq 4#32 0#32) 1#32 4#32))) 512#32 : BitVec 32) = BitVec.ofNat 32 (n.val % 4 * 512) := by decide +kernel
  pointwise [k0_pay5]
  rw [h (i 0)]
  exact (BitVec.ofNat_add _ _).symm

/-- The window's count is the smaller of the position after and the window. -/
theorem min2 : ∀ l : Fin 2048, IntOp.minsi (IntOp.addi (BitVec.ofNat 32 l.val) 1#32) 2#32 = BitVec.ofNat 32 (min (l.val + 1) 2) := by decide +kernel
@[inherit_doc min2] theorem min4 : ∀ l : Fin 2048, IntOp.minsi (IntOp.addi (BitVec.ofNat 32 l.val) 1#32) 4#32 = BitVec.ofNat 32 (min (l.val + 1) 4) := by decide +kernel
@[inherit_doc min2] theorem min8 : ∀ l : Fin 2048, IntOp.minsi (IntOp.addi (BitVec.ofNat 32 l.val) 1#32) 8#32 = BitVec.ofNat 32 (min (l.val + 1) 8) := by decide +kernel
@[inherit_doc min2] theorem min16 : ∀ l : Fin 2048, IntOp.minsi (IntOp.addi (BitVec.ofNat 32 l.val) 1#32) 16#32 = BitVec.ofNat 32 (min (l.val + 1) 16) := by decide +kernel

/-- The block at a group, a row and a column of the group, from the extended tokens: the window's sum over its count less the token, mixed, scaled and gated. -/
def blkAt (l : ℕ) (e : ℕ → ℕ → EReal) (x2 : Vec Ideal S512x2048 .bf16) (x3 : Vec Ideal S4x512x512 .f32) (x4 : Vec Ideal S1x2048 .f32) (g : Fin 4) (a n : Fin 512) : EReal :=
  (∑ k : Fin 512, (Ideal.div (lev (e (g.val * 512 + k.val)) (g.val + 1) (32 + a.val)) (cntN (l + a.val) (2 ^ (g.val + 1))) - e (g.val * 512 + k.val) (32 + a.val)) * x3 (ix3 g k n))
    * x4 (ix2 0 (⟨g.val * 512 + n.val, by omega⟩ : Fin 2048))
    * (x2 (ix2 a (⟨g.val * 512 + n.val, by omega⟩ : Fin 2048)) * Ideal.logistic (x2 (ix2 a (⟨g.val * 512 + n.val, by omega⟩ : Fin 2048))))

section

variable (c : Dev nD) (i : grid0.Coords) (arg1 : Memref sig .tc .vmem S512x2048 .bf16) (harg1 : arg1.IsWhole) (arg2 : Memref sig .tc .vmem S16x2048 .bf16) (harg2 : arg2.IsWhole) (arg3 : Memref sig .tc .vmem S512x2048 .bf16) (harg3 : arg3.IsWhole) (arg4 : Memref sig .tc .vmem S4x512x512 .f32) (harg4 : arg4.IsWhole) (arg5 : Memref sig .tc .vmem S1x2048 .f32) (harg5 : arg5.IsWhole) (arg7 : Memref sig .tc .vmem S544x2048 .f32) (arg8 : Memref sig .tc .vmem S3x544x2048 .f32)
  (x0 : Vec Ideal S512x2048 .bf16) (x1 : Vec Ideal S16x2048 .bf16) (x2 : Vec Ideal S512x2048 .bf16) (x3 : Vec Ideal S4x512x512 .f32) (x4 : Vec Ideal S1x2048 .f32)

/-- A token of the block, among the extended tokens. -/
theorem tok_at (a : Fin 512) (k : Fin 2048) : EE (TK c i arg1 harg1 arg2 harg2 x0 x1) (32 + a.val) k.val = x0 (ix2 a k) := by
  unfold EE
  rw [dif_pos ⟨by omega, k.isLt⟩]
  unfold TK kernelRun0_A.sl.HS0_3
  refine (canon_hit _ _ _ _ (ix2 a k) fun d => ?_).trans ?_
  · match d with
    | 0 => rfl
    | 1 => exact (Nat.zero_add _).symm
  have e := read2 harg1 x0 inb_S512x2048_S512x2048_0_0 a k a k (by omega) (by omega)
  revert e
  generalize View.readAt (Elt Ideal) arg1.view _ (harg1.unread x0) = Y
  intro e
  pointwise [k0_pay4]
  exact e

/-- A token before the block, among the extended tokens: none at the start of a sequence. -/
theorem halo_at (a : Fin 16) (k : Fin 2048) : EE (TK c i arg1 harg1 arg2 harg2 x0 x1) (16 + a.val) k.val = if (i 0).val % 4 = 0 then 0 else x1 (ix2 a k) := by
  have h : ∀ n : Fin 32, (Scalar.cmpi CmpIPredicate.eq (Scalar.muli (Scalar.select (Scalar.andi (Scalar.xori (Scalar.cmpi CmpIPredicate.slt (Scalar.remsi (BitVec.ofNat 32 n.val) (Scalar.select (Scalar.cmpi CmpIPredicate.eq 4#32 0#32) 1#32 4#32)) 0#32)
      (Scalar.cmpi CmpIPredicate.slt (Scalar.select (Scalar.cmpi CmpIPredicate.eq 4#32 0#32) 1#32 4#32) 0#32))
      (Scalar.cmpi CmpIPredicate.ne (Scalar.remsi (BitVec.ofNat 32 n.val) (Scalar.select (Scalar.cmpi CmpIPredicate.eq 4#32 0#32) 1#32 4#32)) 0#32))
      (Scalar.addi (Scalar.remsi (BitVec.ofNat 32 n.val) (Scalar.select (Scalar.cmpi CmpIPredicate.eq 4#32 0#32) 1#32 4#32)) (Scalar.select (Scalar.cmpi CmpIPredicate.eq 4#32 0#32) 1#32 4#32))
      (Scalar.remsi (BitVec.ofNat 32 n.val) (Scalar.select (Scalar.cmpi CmpIPredicate.eq 4#32 0#32) 1#32 4#32))) 512#32) 0#32 : BitVec 1) = if n.val % 4 = 0 then 1#1 else 0#1 := by decide +kernel
  unfold EE
  rw [dif_pos ⟨by omega, k.isLt⟩]
  unfold TK kernelRun0_A.sl.HS0_3
  refine (canon_miss _ _ _ _ 0 (Or.inl ?_)).trans ((canon_hit _ _ _ _ (ix2 a k) fun d => ?_).trans ?_)
  · show 16 + a.val < 32; omega
  · match d with
    | 0 => rfl
    | 1 => exact (Nat.zero_add _).symm
  have e := read2 harg2 x1 inb_S16x2048_S16x2048_0_0 a k a k (by omega) (by omega)
  revert e
  generalize View.readAt (Elt Ideal) arg2.view _ (harg2.unread x1) = Y
  intro e
  pointwise [k0_pay3]
  rw [h (i 0), e]
  by_cases hi : (i 0).val % 4 = 0
  · rw [if_pos hi, if_pos hi]; rfl
  · rw [if_neg hi, if_neg hi]; rfl

/-- Group 0's chain of operations, at an index. -/
theorem chain0 (w : IVec S512x1 32) (x u v : Vec Ideal S512x512 .f32) (W : Vec Ideal S1x512x512 .f32) (l : Vec Ideal S1x512 .f32) (q : Vec Ideal S512x512 .bf16) (a n : Fin 512) :
    k0_pay6 w x u v W l q (ix2 a n) = (∑ k : Fin 512, (Ideal.div (u (ix2 a k) + v (ix2 a k)) (FloatOps.sitofp (F := Ideal) .f32 (IntOp.minsi (IntOp.addi (w (ix2 a 0)) 1#32) 2#32)) - x (ix2 a k)) * W (ix3 0 k n))
      * l (ix2 0 n) * (q (ix2 a n) * Ideal.logistic (q (ix2 a n))) := by
  pointwise [k0_pay6]

/-- Group 0 of the block. -/
theorem grp0 (x u v : Vec Ideal S512x512 .f32) (hx : ∀ a k : Fin 512, x (ix2 a k) = EE (TK c i arg1 harg1 arg2 harg2 x0 x1) (32 + a.val) (0 + k.val))
    (hu : ∀ a k : Fin 512, u (ix2 a k) = EE (TK c i arg1 harg1 arg2 harg2 x0 x1) (32 + a.val) (0 + k.val))
    (hv : ∀ a k : Fin 512, v (ix2 a k) = EE (TK c i arg1 harg1 arg2 harg2 x0 x1) (31 + a.val) (0 + k.val)) (a n : Fin 512) :
    k0_pay6 (k0_pay5 i) x u v
      (View.readAt (Elt Ideal) arg4.view (Rect.unit (s := S4x512x512) ![0, 0, 0] S1x512x512.size inb_S4x512x512_S1x512x512_0_0_0).toLoadRect (harg4.unread x3))
      (View.readAt (Elt Ideal) arg5.view (Rect.unit (s := S1x2048) ![0, 0] S1x512.size inb_S1x2048_S1x512_0_0).toLoadRect (harg5.unread x4))
      (View.readAt (Elt Ideal) arg3.view (Rect.unit (s := S512x2048) ![0, 0] S512x512.size inb_S512x2048_S512x512_0_0).toLoadRect (harg3.unread x2)) (ix2 a n)
      = blkAt ((i 0).val % 4 * 512) (fun k r => EE (TK c i arg1 harg1 arg2 harg2 x0 x1) r k) x2 x3 x4 0 a n := by
  refine (chain0 _ _ _ _ _ _ _ a n).trans ?_
  have hl : ∀ k : Fin 512, (u (ix2 a k) + v (ix2 a k) : EReal) = lev (col c i arg1 harg1 arg2 harg2 x0 x1 (0 * 512 + k.val)) (0 + 1) (32 + a.val) := fun k => by
    refine congrArg₂ (· + ·) ((hu a k).trans ?_) ((hv a k).trans ?_)
    · exact congrArg (EE (TK c i arg1 harg1 arg2 harg2 x0 x1) _) (show 0 + k.val = 0 * 512 + k.val by omega)
    · exact congrArg₂ (EE (TK c i arg1 harg1 arg2 harg2 x0 x1)) (show 31 + a.val = 32 + a.val - 1 by omega) (show 0 + k.val = 0 * 512 + k.val by omega)
  have hc : (FloatOps.sitofp (F := Ideal) .f32 (IntOp.minsi (IntOp.addi (k0_pay5 i (ix2 a 0)) 1#32) 2#32) : EReal) = cntN ((i 0).val % 4 * 512 + a.val) 2 := by
    rw [pos_at i a, min2 ⟨(i 0).val % 4 * 512 + a.val, by omega⟩]; rfl
  have hg := read2 harg3 x2 inb_S512x2048_S512x512_0_0 a n a (⟨0 + n.val, by omega⟩ : Fin 2048) (by omega) rfl
  refine congrArg₂ (· * ·) (congrArg₂ (· * ·) (Finset.sum_congr rfl fun k _ => congrArg₂ (· * ·) (congrArg₂ (· - ·) (congrArg₂ Ideal.div (hl k) hc) ((hx a k).trans ?_)) ?_) ?_) ?_
  · exact congrArg (EE (TK c i arg1 harg1 arg2 harg2 x0 x1) _) (show 0 + k.val = 0 * 512 + k.val by omega)
  · exact read3 harg4 x3 inb_S4x512x512_S1x512x512_0_0_0 0 k n 0 k n (by simp) (by omega) (by omega)
  · exact read2 harg5 x4 inb_S1x2048_S1x512_0_0 0 n 0 (⟨0 + n.val, by omega⟩ : Fin 2048) (by simp) rfl
  · exact congrArg₂ (· * ·) hg (congrArg Ideal.logistic hg)

/-- Group 1's chain of operations, at an index. -/
theorem chain1 (w : IVec S512x1 32) (x u v : Vec Ideal S512x512 .f32) (W : Vec Ideal S1x512x512 .f32) (l : Vec Ideal S1x512 .f32) (q : Vec Ideal S512x512 .bf16) (a n : Fin 512) :
    k0_pay8 w x u v W l q (ix2 a n) = (∑ k : Fin 512, (Ideal.div (u (ix2 a k) + v (ix2 a k)) (FloatOps.sitofp (F := Ideal) .f32 (IntOp.minsi (IntOp.addi (w (ix2 a 0)) 1#32) 4#32)) - x (ix2 a k)) * W (ix3 0 k n))
      * l (ix2 0 n) * (q (ix2 a n) * Ideal.logistic (q (ix2 a n))) := by
  pointwise [k0_pay8]

/-- Group 1 of the block. -/
theorem grp1 (x u v : Vec Ideal S512x512 .f32) (hx : ∀ a k : Fin 512, x (ix2 a k) = EE (TK c i arg1 harg1 arg2 harg2 x0 x1) (32 + a.val) (512 + k.val))
    (hu : ∀ a k : Fin 512, u (ix2 a k) = EL (kernelRun0_A.sl.HS1_1 (F := Ideal) c i arg1 harg1 arg2 harg2 arg7 x0 x1) 0 (32 + a.val) (512 + k.val))
    (hv : ∀ a k : Fin 512, v (ix2 a k) = EL (kernelRun0_A.sl.HS1_1 (F := Ideal) c i arg1 harg1 arg2 harg2 arg7 x0 x1) 0 (30 + a.val) (512 + k.val)) (a n : Fin 512) :
    k0_pay8 (k0_pay5 i) x u v
      (View.readAt (Elt Ideal) arg4.view (Rect.unit (s := S4x512x512) ![1, 0, 0] S1x512x512.size inb_S4x512x512_S1x512x512_1_0_0).toLoadRect (harg4.unread x3))
      (View.readAt (Elt Ideal) arg5.view (Rect.unit (s := S1x2048) ![0, 512] S1x512.size inb_S1x2048_S1x512_0_512).toLoadRect (harg5.unread x4))
      (View.readAt (Elt Ideal) arg3.view (Rect.unit (s := S512x2048) ![0, 512] S512x512.size inb_S512x2048_S512x512_0_512).toLoadRect (harg3.unread x2)) (ix2 a n)
      = blkAt ((i 0).val % 4 * 512) (fun k r => EE (TK c i arg1 harg1 arg2 harg2 x0 x1) r k) x2 x3 x4 1 a n := by
  refine (chain1 _ _ _ _ _ _ _ a n).trans ?_
  have hl : ∀ k : Fin 512, (u (ix2 a k) + v (ix2 a k) : EReal) = lev (col c i arg1 harg1 arg2 harg2 x0 x1 (1 * 512 + k.val)) (1 + 1) (32 + a.val) := fun k => by
    refine congrArg₂ (· + ·) ((hu a k).trans ?_) ((hv a k).trans ?_)
    · refine Eq.trans ?_ (at_HS1_1 c i arg1 harg1 arg2 harg2 arg7 x0 x1 (⟨8 + a.val, by omega⟩ : Fin 520) k |>.trans ?_)
      · exact congrArg (fun r => EL _ 0 r (512 + k.val)) (show 32 + a.val = 24 + (8 + a.val) by omega)
      · exact congrArg (lev (col c i arg1 harg1 arg2 harg2 x0 x1 (512 + k.val)) 1) (show 24 + (8 + a.val) = 32 + a.val by omega)
    · refine Eq.trans ?_ (at_HS1_1 c i arg1 harg1 arg2 harg2 arg7 x0 x1 (⟨6 + a.val, by omega⟩ : Fin 520) k |>.trans ?_)
      · exact congrArg (fun r => EL _ 0 r (512 + k.val)) (show 30 + a.val = 24 + (6 + a.val) by omega)
      · exact congrArg (lev (col c i arg1 harg1 arg2 harg2 x0 x1 (512 + k.val)) 1) (show 24 + (6 + a.val) = 32 + a.val - 2 by omega)
  have hc : (FloatOps.sitofp (F := Ideal) .f32 (IntOp.minsi (IntOp.addi (k0_pay5 i (ix2 a 0)) 1#32) 4#32) : EReal) = cntN ((i 0).val % 4 * 512 + a.val) 4 := by
    rw [pos_at i a, min4 ⟨(i 0).val % 4 * 512 + a.val, by omega⟩]; rfl
  have hg := read2 harg3 x2 inb_S512x2048_S512x512_0_512 a n a (⟨512 + n.val, by omega⟩ : Fin 2048) (by omega) rfl
  refine congrArg₂ (· * ·) (congrArg₂ (· * ·) (Finset.sum_congr rfl fun k _ => congrArg₂ (· * ·) (congrArg₂ (· - ·) (congrArg₂ Ideal.div (hl k) hc) ((hx a k).trans ?_)) ?_) ?_) ?_
  · exact congrArg (EE (TK c i arg1 harg1 arg2 harg2 x0 x1) _) (show 512 + k.val = 1 * 512 + k.val by omega)
  · exact read3 harg4 x3 inb_S4x512x512_S1x512x512_1_0_0 0 k n 1 k n (by simp) (by omega) (by omega)
  · exact read2 harg5 x4 inb_S1x2048_S1x512_0_512 0 n 0 (⟨512 + n.val, by omega⟩ : Fin 2048) (by simp) rfl
  · exact congrArg₂ (· * ·) hg (congrArg Ideal.logistic hg)

/-- Group 2's chain of operations, at an index. -/
theorem chain2 (w : IVec S512x1 32) (x u v : Vec Ideal S512x512 .f32) (W : Vec Ideal S1x512x512 .f32) (l : Vec Ideal S1x512 .f32) (q : Vec Ideal S512x512 .bf16) (a n : Fin 512) :
    k0_pay12 x (k0_pay11 w u v) W l q (ix2 a n) = (∑ k : Fin 512, (Ideal.div (u (ix2 a k) + v (ix2 a k)) (FloatOps.sitofp (F := Ideal) .f32 (IntOp.minsi (IntOp.addi (w (ix2 a 0)) 1#32) 8#32)) - x (ix2 a k)) * W (ix3 0 k n))
      * l (ix2 0 n) * (q (ix2 a n) * Ideal.logistic (q (ix2 a n))) := by
  pointwise [k0_pay12, k0_pay11]

/-- Group 2 of the block. -/
theorem grp2 (x u v : Vec Ideal S512x512 .f32) (hx : ∀ a k : Fin 512, x (ix2 a k) = EE (TK c i arg1 harg1 arg2 harg2 x0 x1) (32 + a.val) (1024 + k.val))
    (hu : ∀ a k : Fin 512, u (ix2 a k) = EL (kernelRun0_A.sl.HS1_3 (F := Ideal) c i arg1 harg1 arg2 harg2 arg7 arg8 x0 x1) 1 (32 + a.val) (1024 + k.val))
    (hv : ∀ a k : Fin 512, v (ix2 a k) = EL (kernelRun0_A.sl.HS1_3 (F := Ideal) c i arg1 harg1 arg2 harg2 arg7 arg8 x0 x1) 1 (28 + a.val) (1024 + k.val)) (a n : Fin 512) :
    k0_pay12 x (k0_pay11 (k0_pay5 i) u v)
      (View.readAt (Elt Ideal) arg4.view (Rect.unit (s := S4x512x512) ![2, 0, 0] S1x512x512.size inb_S4x512x512_S1x512x512_2_0_0).toLoadRect (harg4.unread x3))
      (View.readAt (Elt Ideal) arg5.view (Rect.unit (s := S1x2048) ![0, 1024] S1x512.size inb_S1x2048_S1x512_0_1024).toLoadRect (harg5.unread x4))
      (View.readAt (Elt Ideal) arg3.view (Rect.unit (s := S512x2048) ![0, 1024] S512x512.size inb_S512x2048_S512x512_0_1024).toLoadRect (harg3.unread x2)) (ix2 a n)
      = blkAt ((i 0).val % 4 * 512) (fun k r => EE (TK c i arg1 harg1 arg2 harg2 x0 x1) r k) x2 x3 x4 2 a n := by
  refine (chain2 _ _ _ _ _ _ _ a n).trans ?_
  have hl : ∀ k : Fin 512, (u (ix2 a k) + v (ix2 a k) : EReal) = lev (col c i arg1 harg1 arg2 harg2 x0 x1 (2 * 512 + k.val)) (2 + 1) (32 + a.val) := fun k => by
    refine congrArg₂ (· + ·) ((hu a k).trans ?_) ((hv a k).trans ?_)
    · refine Eq.trans ?_ (at_HS1_3 c i arg1 harg1 arg2 harg2 arg7 arg8 x0 x1 (⟨8 + a.val, by omega⟩ : Fin 520) k |>.trans ?_)
      · exact congrArg (fun r => EL _ 1 r (1024 + k.val)) (show 32 + a.val = 24 + (8 + a.val) by omega)
      · exact congrArg (lev (col c i arg1 harg1 arg2 harg2 x0 x1 (1024 + k.val)) 2) (show 24 + (8 + a.val) = 32 + a.val by omega)
    · refine Eq.trans ?_ (at_HS1_3 c i arg1 harg1 arg2 harg2 arg7 arg8 x0 x1 (⟨4 + a.val, by omega⟩ : Fin 520) k |>.trans ?_)
      · exact congrArg (fun r => EL _ 1 r (1024 + k.val)) (show 28 + a.val = 24 + (4 + a.val) by omega)
      · exact congrArg (lev (col c i arg1 harg1 arg2 harg2 x0 x1 (1024 + k.val)) 2) (show 24 + (4 + a.val) = 32 + a.val - 4 by omega)
  have hc : (FloatOps.sitofp (F := Ideal) .f32 (IntOp.minsi (IntOp.addi (k0_pay5 i (ix2 a 0)) 1#32) 8#32) : EReal) = cntN ((i 0).val % 4 * 512 + a.val) 8 := by
    rw [pos_at i a, min8 ⟨(i 0).val % 4 * 512 + a.val, by omega⟩]; rfl
  have hg := read2 harg3 x2 inb_S512x2048_S512x512_0_1024 a n a (⟨1024 + n.val, by omega⟩ : Fin 2048) (by omega) rfl
  refine congrArg₂ (· * ·) (congrArg₂ (· * ·) (Finset.sum_congr rfl fun k _ => congrArg₂ (· * ·) (congrArg₂ (· - ·) (congrArg₂ Ideal.div (hl k) hc) ((hx a k).trans ?_)) ?_) ?_) ?_
  · exact congrArg (EE (TK c i arg1 harg1 arg2 harg2 x0 x1) _) (show 1024 + k.val = 2 * 512 + k.val by omega)
  · exact read3 harg4 x3 inb_S4x512x512_S1x512x512_2_0_0 0 k n 2 k n (by simp) (by omega) (by omega)
  · exact read2 harg5 x4 inb_S1x2048_S1x512_0_1024 0 n 0 (⟨1024 + n.val, by omega⟩ : Fin 2048) (by simp) rfl
  · exact congrArg₂ (· * ·) hg (congrArg Ideal.logistic hg)

/-- Group 3's chain of operations, at an index. -/
theorem chain3 (w : IVec S512x1 32) (x u v : Vec Ideal S512x512 .f32) (W : Vec Ideal S1x512x512 .f32) (l : Vec Ideal S1x512 .f32) (q : Vec Ideal S512x512 .bf16) (a n : Fin 512) :
    k0_pay1 (k0_pay16 w x u v) W l q (ix2 a n) = (∑ k : Fin 512, (Ideal.div (u (ix2 a k) + v (ix2 a k)) (FloatOps.sitofp (F := Ideal) .f32 (IntOp.minsi (IntOp.addi (w (ix2 a 0)) 1#32) 16#32)) - x (ix2 a k)) * W (ix3 0 k n))
      * l (ix2 0 n) * (q (ix2 a n) * Ideal.logistic (q (ix2 a n))) := by
  pointwise [k0_pay1, k0_pay16]

/-- Group 3 of the block. -/
theorem grp3 (x u v : Vec Ideal S512x512 .f32) (hx : ∀ a k : Fin 512, x (ix2 a k) = EE (TK c i arg1 harg1 arg2 harg2 x0 x1) (32 + a.val) (1536 + k.val))
    (hu : ∀ a k : Fin 512, u (ix2 a k) = EL (kernelRun0_A.sl.HS1_6 (F := Ideal) c i arg1 harg1 arg2 harg2 arg7 arg8 x0 x1) 2 (32 + a.val) (1536 + k.val))
    (hv : ∀ a k : Fin 512, v (ix2 a k) = EL (kernelRun0_A.sl.HS1_6 (F := Ideal) c i arg1 harg1 arg2 harg2 arg7 arg8 x0 x1) 2 (24 + a.val) (1536 + k.val)) (a n : Fin 512) :
    k0_pay1 (k0_pay16 (k0_pay5 i) x u v)
      (View.readAt (Elt Ideal) arg4.view (Rect.unit (s := S4x512x512) ![3, 0, 0] S1x512x512.size inb_S4x512x512_S1x512x512_3_0_0).toLoadRect (harg4.unread x3))
      (View.readAt (Elt Ideal) arg5.view (Rect.unit (s := S1x2048) ![0, 1536] S1x512.size inb_S1x2048_S1x512_0_1536).toLoadRect (harg5.unread x4))
      (View.readAt (Elt Ideal) arg3.view (Rect.unit (s := S512x2048) ![0, 1536] S512x512.size inb_S512x2048_S512x512_0_1536).toLoadRect (harg3.unread x2)) (ix2 a n)
      = blkAt ((i 0).val % 4 * 512) (fun k r => EE (TK c i arg1 harg1 arg2 harg2 x0 x1) r k) x2 x3 x4 3 a n := by
  refine (chain3 _ _ _ _ _ _ _ a n).trans ?_
  have hl : ∀ k : Fin 512, (u (ix2 a k) + v (ix2 a k) : EReal) = lev (col c i arg1 harg1 arg2 harg2 x0 x1 (3 * 512 + k.val)) (3 + 1) (32 + a.val) := fun k => by
    refine congrArg₂ (· + ·) ((hu a k).trans ?_) ((hv a k).trans ?_)
    · refine Eq.trans ?_ (at_HS1_6 c i arg1 harg1 arg2 harg2 arg7 arg8 x0 x1 (⟨8 + a.val, by omega⟩ : Fin 520) k |>.trans ?_)
      · exact congrArg (fun r => EL _ 2 r (1536 + k.val)) (show 32 + a.val = 24 + (8 + a.val) by omega)
      · exact congrArg (lev (col c i arg1 harg1 arg2 harg2 x0 x1 (1536 + k.val)) 3) (show 24 + (8 + a.val) = 32 + a.val by omega)
    · refine Eq.trans ?_ (at_HS1_6 c i arg1 harg1 arg2 harg2 arg7 arg8 x0 x1 (⟨0 + a.val, by omega⟩ : Fin 520) k |>.trans ?_)
      · exact congrArg (fun r => EL _ 2 r (1536 + k.val)) (show 24 + a.val = 24 + (0 + a.val) by omega)
      · exact congrArg (lev (col c i arg1 harg1 arg2 harg2 x0 x1 (1536 + k.val)) 3) (show 24 + (0 + a.val) = 32 + a.val - 8 by omega)
  have hc : (FloatOps.sitofp (F := Ideal) .f32 (IntOp.minsi (IntOp.addi (k0_pay5 i (ix2 a 0)) 1#32) 16#32) : EReal) = cntN ((i 0).val % 4 * 512 + a.val) 16 := by
    rw [pos_at i a, min16 ⟨(i 0).val % 4 * 512 + a.val, by omega⟩]; rfl
  have hg := read2 harg3 x2 inb_S512x2048_S512x512_0_1536 a n a (⟨1536 + n.val, by omega⟩ : Fin 2048) (by omega) rfl
  refine congrArg₂ (· * ·) (congrArg₂ (· * ·) (Finset.sum_congr rfl fun k _ => congrArg₂ (· * ·) (congrArg₂ (· - ·) (congrArg₂ Ideal.div (hl k) hc) ((hx a k).trans ?_)) ?_) ?_) ?_
  · exact congrArg (EE (TK c i arg1 harg1 arg2 harg2 x0 x1) _) (show 1536 + k.val = 3 * 512 + k.val by omega)
  · exact read3 harg4 x3 inb_S4x512x512_S1x512x512_3_0_0 0 k n 3 k n (by simp) (by omega) (by omega)
  · exact read2 harg5 x4 inb_S1x2048_S1x512_0_1536 0 n 0 (⟨1536 + n.val, by omega⟩ : Fin 2048) (by simp) rfl
  · exact congrArg₂ (· * ·) hg (congrArg Ideal.logistic hg)

variable (arg6 : Memref sig .tc .vmem S512x2048 .bf16) (harg6 : arg6.IsWhole) (harg7 : arg7.IsWhole) (harg8 : arg8.IsWhole)

/-- The block the body writes, at an index. -/
theorem pool_block (y : S512x2048.Idx) :
    View.canon (kernelRun0_A (F := Ideal) c i arg1 harg1 arg2 harg2 arg3 harg3 arg4 harg4 arg5 harg5 arg6 harg6 arg7 harg7 arg8 harg8 x0 x1 x2 x3 x4).1 y
      = blkAt ((i 0).val % 4 * 512) (fun k r => EE (TK c i arg1 harg1 arg2 harg2 x0 x1) r k) x2 x3 x4
        (⟨(y 1).val / 512, by have h : (y 1).val < 2048 := (y 1).isLt; omega⟩ : Fin 4) (y 0) (⟨(y 1).val % 512, by omega⟩ : Fin 512) := by
  have key : ∀ (g : Fin 4) (a n : Fin 512), (y 0).val = a.val → (y 1).val = g.val * 512 + n.val →
      blkAt ((i 0).val % 4 * 512) (fun k r => EE (TK c i arg1 harg1 arg2 harg2 x0 x1) r k) x2 x3 x4 g a n
      = blkAt ((i 0).val % 4 * 512) (fun k r => EE (TK c i arg1 harg1 arg2 harg2 x0 x1) r k) x2 x3 x4
        (⟨(y 1).val / 512, by have h : (y 1).val < 2048 := (y 1).isLt; omega⟩ : Fin 4) (y 0) (⟨(y 1).val % 512, by omega⟩ : Fin 512) := fun g a n h0 h1 => by
    have e0 : (y 0 : Fin 512) = a := Fin.ext h0
    have e1 : (⟨(y 1).val / 512, by have h : (y 1).val < 2048 := (y 1).isLt; omega⟩ : Fin 4) = g := Fin.ext (by show (y 1).val / 512 = g.val; omega)
    have e2 : (⟨(y 1).val % 512, by omega⟩ : Fin 512) = n := Fin.ext (by show (y 1).val % 512 = n.val; omega)
    rw [e1, e2]
    exact congrArg (fun z => blkAt _ _ _ _ _ g z n) e0.symm
  unfold kernelRun0_A
  dsimp only
  canon_tiles x h
  case piece0 =>
    obtain ⟨a, n, rfl⟩ : ∃ a n : Fin 512, x = ix2 a n := ⟨x 0, x 1, by funext d; match d with | 0 => rfl | 1 => rfl⟩
    unfold kernelRun0_A.sl.r_2; refine Eq.trans ?_ (key 3 a n ?_ ?_)
    · refine grp3 c i arg1 harg1 arg2 harg2 arg3 harg3 arg4 harg4 arg5 harg5 arg7 arg8 x0 x1 x2 x3 x4 _ _ _ ?_ ?_ ?_ a n
      · exact fun a k => by unfold kernelRun0_A.sl.v145; exact cov2 (M := arg7) _ _ a k
      · exact fun a k => by unfold kernelRun0_A.sl.v174; exact cov3 (M := arg8) _ _ _ _ _ _ _ a k
      · exact fun a k => by unfold kernelRun0_A.sl.v177; exact cov3 (M := arg8) _ _ _ _ _ _ _ a k
    · exact h0
    · first | exact h1 | (refine Eq.trans h1 ?_; show n.val = 0 * 512 + n.val; omega)
  case piece1 =>
    obtain ⟨a, n, rfl⟩ : ∃ a n : Fin 512, x = ix2 a n := ⟨x 0, x 1, by funext d; match d with | 0 => rfl | 1 => rfl⟩
    unfold kernelRun0_A.sl.r; refine Eq.trans ?_ (key 2 a n ?_ ?_)
    · refine grp2 c i arg1 harg1 arg2 harg2 arg3 harg3 arg4 harg4 arg5 harg5 arg7 arg8 x0 x1 x2 x3 x4 _ _ _ ?_ ?_ ?_ a n
      · exact fun a k => by unfold kernelRun0_A.sl.v97; exact cov2 (M := arg7) _ _ a k
      · exact fun a k => by unfold kernelRun0_A.sl.v116; exact cov3 (M := arg8) _ _ _ _ _ _ _ a k
      · exact fun a k => by unfold kernelRun0_A.sl.v119; exact cov3 (M := arg8) _ _ _ _ _ _ _ a k
    · exact h0
    · first | exact h1 | (refine Eq.trans h1 ?_; show n.val = 0 * 512 + n.val; omega)
  case piece2 =>
    obtain ⟨a, n, rfl⟩ : ∃ a n : Fin 512, x = ix2 a n := ⟨x 0, x 1, by funext d; match d with | 0 => rfl | 1 => rfl⟩
    refine Eq.trans ?_ (key 1 a n ?_ ?_)
    · refine grp1 c i arg1 harg1 arg2 harg2 arg3 harg3 arg4 harg4 arg5 harg5 arg7 x0 x1 x2 x3 x4 _ _ _ ?_ ?_ ?_ a n
      · exact fun a k => by unfold kernelRun0_A.sl.v59; exact cov2 (M := arg7) _ _ a k
      · exact fun a k => by unfold kernelRun0_A.sl.v68; exact cov3 (M := arg8) _ _ _ _ _ _ _ a k
      · exact fun a k => by unfold kernelRun0_A.sl.v71; exact cov3 (M := arg8) _ _ _ _ _ _ _ a k
    · exact h0
    · first | exact h1 | (refine Eq.trans h1 ?_; show n.val = 0 * 512 + n.val; omega)
  case piece3 =>
    obtain ⟨a, n, rfl⟩ : ∃ a n : Fin 512, x = ix2 a n := ⟨x 0, x 1, by funext d; match d with | 0 => rfl | 1 => rfl⟩
    refine Eq.trans ?_ (key 0 a n ?_ ?_)
    · refine grp0 c i arg1 harg1 arg2 harg2 arg3 harg3 arg4 harg4 arg5 harg5 x0 x1 x2 x3 x4 _ _ _ ?_ ?_ ?_ a n
      · exact fun a k => by unfold kernelRun0_A.sl.v31; exact cov2 (M := arg7) _ _ a k
      · exact fun a k => by unfold kernelRun0_A.sl.v31; exact cov2 (M := arg7) _ _ a k
      · exact fun a k => by unfold kernelRun0_A.sl.v33; exact cov2 (M := arg7) _ _ a k
    · exact h0
    · first | exact h1 | (refine Eq.trans h1 ?_; show n.val = 0 * 512 + n.val; omega)

end

end Cert.PoolIdeal.RefValue

end
-- ==== Proof.PoolRefPoint.lean ====
/- The pooling mixer's reference at an index: the window's sum over its count less the token, mixed by the group's weights, scaled and gated. -/
module

public import proofs.«01_k».proof.Proof.PoolWindow
public import proofs.«01_k».proof.Proof.PoolBlock

@[expose] public section

set_option maxRecDepth 16384

noncomputable section

open Idealize.ShloMosaic Idealize.ShloMosaic.TcCoe

namespace Cert.PoolRefIdeal.Point

open Cert.PoolRefIdeal Cert.PoolRefIdeal.Gen Cert.PoolRefIdeal.Read Cert.PoolRefIdeal.Window
open Cert.PoolIdeal.RefValue (cntN)

variable (X : (⟨S16384x17920, .bf16⟩ : BufTy).Contents (Elt Ideal)) (W : (⟨S4x512x512, .f32⟩ : BufTy).Contents (Elt Ideal)) (s : (⟨S2048, .f32⟩ : BufTy).Contents (Elt Ideal))

/-- The mean of the window less the token, at a group, a sequence, a position and a column of the group. -/
def yAt (g : Fin 4) (b : Fin 8) (l : Fin 2048) (c : Fin 512) : EReal :=
  Ideal.div (∑ d ∈ Finset.range (2 ^ (g.val + 1)), (if h : d ≤ l.val then X (ix2 (⟨b.val * 2048 + (l.val - d), by omega⟩ : Fin 16384) (⟨4096 + (g.val * 512 + c.val), by omega⟩ : Fin 17920)) else 0))
      (cntN l.val (2 ^ (g.val + 1)))
    - X (ix2 (⟨b.val * 2048 + l.val, by omega⟩ : Fin 16384) (⟨4096 + (g.val * 512 + c.val), by omega⟩ : Fin 17920))

/-- The initial value of the sums is zero. -/
theorem zero_bits : (FloatOps.ofBits .f32 0x00000000#32 : Ideal .f32) = (0 : EReal) := by
  show Ideal.ofBits FTy.f32 0#32 = 0
  simp [Ideal.ofBits, Ideal.ieee]

/-- The window's count is the smaller of the position after and the window. -/
theorem ref2 : ∀ l : Fin 2048, IntOp.subi (IntOp.addi (BitVec.ofNat 32 l.val) 1#32) (IntOp.maxsi (IntOp.subi (IntOp.addi (BitVec.ofNat 32 l.val) 1#32) 2#32) 0#32)
    = BitVec.ofNat 32 (min (l.val + 1) 2) := by decide +kernel

/-- Group 0's tokens. -/
theorem tok0 (b : Fin 8) (l : Fin 2048) (c : Fin 512) : val_main_v17 (F := Ideal) X (ix3 b l c)
    = X (ix2 (⟨b.val * 2048 + l.val, by omega⟩ : Fin 16384) (⟨4096 + (0 * 512 + c.val), by omega⟩ : Fin 17920)) := by
  have h : val_main_v17 (F := Ideal) X (ix3 b l c) = X (ix2 (⟨b.val * 2048 + l.val, by omega⟩ : Fin 16384) (⟨4096 + (0 + c.val), by omega⟩ : Fin 17920)) := by
    pointwise [val_main_v17, val_main_v2, val_main_v1, val_main_v0]
  exact h.trans (congrArg (fun z => X (ix2 (⟨b.val * 2048 + l.val, by omega⟩ : Fin 16384) z)) (Fin.ext (by show 4096 + (0 + c.val) = 4096 + (0 * 512 + c.val); omega)))

/-- Group 0's tokens, as the mean is taken off them. -/
theorem sub0 (b : Fin 8) (l : Fin 2048) (c : Fin 512) : val_main_v23 (F := Ideal) X (ix3 b l c)
    = X (ix2 (⟨b.val * 2048 + l.val, by omega⟩ : Fin 16384) (⟨4096 + (0 * 512 + c.val), by omega⟩ : Fin 17920)) :=
  (show val_main_v23 (F := Ideal) X (ix3 b l c) = val_main_v17 (F := Ideal) X (ix3 b l c) from rfl).trans (tok0 X b l c)

/-- Group 0's counts. -/
theorem cnt0 (b : Fin 8) (l : Fin 2048) (c : Fin 512) : val_main_v21 (F := Ideal) (ix3 b l c) = cntN l.val 2 := by
  pointwise [val_main_v6, val_main_v7, val_main_v8, val_main_v9, val_main_v10, val_main_v11, val_main_v12, val_main_v13, val_main_v14, val_main_v15, val_main_v16, val_main_v20, val_main_v21, val_main_c, val_main_c_0, val_main_c_1, val_main_c_2]
  rw [ref2 l]; rfl

/-- Group 0's window sums. -/
theorem win0 (b : Fin 8) (l : Fin 2048) (c : Fin 512) : val_main_v19 (F := Ideal) X (ix3 b l c)
    = ∑ d ∈ Finset.range 2, (if h : d ≤ l.val then X (ix2 (⟨b.val * 2048 + (l.val - d), by omega⟩ : Fin 16384) (⟨4096 + (0 * 512 + c.val), by omega⟩ : Fin 17920)) else 0) := by
  unfold val_main_v19
  have h0 : val_main_v18 (F := Ideal) (Shape.Idx.first h_S_) = (0 : EReal) := by
    rw [val_main_v18_apply, val_main_cst_apply]; exact zero_bits
  refine (win_sum 2 1 rfl (val_main_v17 (F := Ideal) X) _ h0 reduceWindows_S8x2048x512_S8x2048x512_w1s1p0_0_w2s1p1_0_w1s1p0_0 b l c).trans (Finset.sum_congr rfl fun d _ => ?_)
  by_cases h : d ≤ l.val
  · rw [dif_pos h, dif_pos h]; exact tok0 X b _ c
  · rw [dif_neg h, dif_neg h]

/-- Group 0 of the stacked groups. -/
theorem grp0 (b : Fin 8) (l : Fin 2048) (c : Fin 512) : val_main_v83 (F := Ideal) X (ix4 b l 0 c) = yAt X 0 b l c := by
  have h : val_main_v83 (F := Ideal) X (ix4 b l 0 c) = val_main_v24 (F := Ideal) X (ix3 b l c) := by
    pointwise [val_main_v83, val_main_v79, val_main_v80, val_main_v81, val_main_v82]
  refine h.trans ?_
  show Ideal.div (val_main_v19 (F := Ideal) X (ix3 b l c)) (val_main_v21 (F := Ideal) (ix3 b l c)) - val_main_v23 (F := Ideal) X (ix3 b l c) = _
  rw [win0, cnt0, sub0]
  rfl

/-- The window's count is the smaller of the position after and the window. -/
theorem ref4 : ∀ l : Fin 2048, IntOp.subi (IntOp.addi (BitVec.ofNat 32 l.val) 1#32) (IntOp.maxsi (IntOp.subi (IntOp.addi (BitVec.ofNat 32 l.val) 1#32) 4#32) 0#32)
    = BitVec.ofNat 32 (min (l.val + 1) 4) := by decide +kernel

/-- Group 1's tokens. -/
theorem tok1 (b : Fin 8) (l : Fin 2048) (c : Fin 512) : val_main_v35 (F := Ideal) X (ix3 b l c)
    = X (ix2 (⟨b.val * 2048 + l.val, by omega⟩ : Fin 16384) (⟨4096 + (1 * 512 + c.val), by omega⟩ : Fin 17920)) := by
  have h : val_main_v35 (F := Ideal) X (ix3 b l c) = X (ix2 (⟨b.val * 2048 + l.val, by omega⟩ : Fin 16384) (⟨4096 + (512 + c.val), by omega⟩ : Fin 17920)) := by
    pointwise [val_main_v35, val_main_v2, val_main_v1, val_main_v0]
  exact h.trans (congrArg (fun z => X (ix2 (⟨b.val * 2048 + l.val, by omega⟩ : Fin 16384) z)) (Fin.ext (by show 4096 + (512 + c.val) = 4096 + (1 * 512 + c.val); omega)))

/-- Group 1's tokens, as the mean is taken off them. -/
theorem sub1 (b : Fin 8) (l : Fin 2048) (c : Fin 512) : val_main_v41 (F := Ideal) X (ix3 b l c)
    = X (ix2 (⟨b.val * 2048 + l.val, by omega⟩ : Fin 16384) (⟨4096 + (1 * 512 + c.val), by omega⟩ : Fin 17920)) :=
  (show val_main_v41 (F := Ideal) X (ix3 b l c) = val_main_v35 (F := Ideal) X (ix3 b l c) from rfl).trans (tok1 X b l c)

/-- Group 1's counts. -/
theorem cnt1 (b : Fin 8) (l : Fin 2048) (c : Fin 512) : val_main_v39 (F := Ideal) (ix3 b l c) = cntN l.val 4 := by
  pointwise [val_main_v6, val_main_v25, val_main_v26, val_main_v27, val_main_v28, val_main_v29, val_main_v30, val_main_v31, val_main_v32, val_main_v33, val_main_v34, val_main_v38, val_main_v39, val_main_c_3, val_main_c_4, val_main_c_5, val_main_c_6]
  rw [ref4 l]; rfl

/-- Group 1's window sums. -/
theorem win1 (b : Fin 8) (l : Fin 2048) (c : Fin 512) : val_main_v37 (F := Ideal) X (ix3 b l c)
    = ∑ d ∈ Finset.range 4, (if h : d ≤ l.val then X (ix2 (⟨b.val * 2048 + (l.val - d), by omega⟩ : Fin 16384) (⟨4096 + (1 * 512 + c.val), by omega⟩ : Fin 17920)) else 0) := by
  unfold val_main_v37
  have h0 : val_main_v36 (F := Ideal) (Shape.Idx.first h_S_) = (0 : EReal) := by
    rw [val_main_v36_apply, val_main_cst_7_apply]; exact zero_bits
  refine (win_sum 4 3 rfl (val_main_v35 (F := Ideal) X) _ h0 reduceWindows_S8x2048x512_S8x2048x512_w1s1p0_0_w4s1p3_0_w1s1p0_0 b l c).trans (Finset.sum_congr rfl fun d _ => ?_)
  by_cases h : d ≤ l.val
  · rw [dif_pos h, dif_pos h]; exact tok1 X b _ c
  · rw [dif_neg h, dif_neg h]

/-- Group 1 of the stacked groups. -/
theorem grp1 (b : Fin 8) (l : Fin 2048) (c : Fin 512) : val_main_v83 (F := Ideal) X (ix4 b l 1 c) = yAt X 1 b l c := by
  have h : val_main_v83 (F := Ideal) X (ix4 b l 1 c) = val_main_v42 (F := Ideal) X (ix3 b l c) := by
    pointwise [val_main_v83, val_main_v79, val_main_v80, val_main_v81, val_main_v82]
  refine h.trans ?_
  show Ideal.div (val_main_v37 (F := Ideal) X (ix3 b l c)) (val_main_v39 (F := Ideal) (ix3 b l c)) - val_main_v41 (F := Ideal) X (ix3 b l c) = _
  rw [win1, cnt1, sub1]
  rfl

/-- The window's count is the smaller of the position after and the window. -/
theorem ref8 : ∀ l : Fin 2048, IntOp.subi (IntOp.addi (BitVec.ofNat 32 l.val) 1#32) (IntOp.maxsi (IntOp.subi (IntOp.addi (BitVec.ofNat 32 l.val) 1#32) 8#32) 0#32)
    = BitVec.ofNat 32 (min (l.val + 1) 8) := by decide +kernel

/-- Group 2's tokens. -/
theorem tok2 (b : Fin 8) (l : Fin 2048) (c : Fin 512) : val_main_v53 (F := Ideal) X (ix3 b l c)
    = X (ix2 (⟨b.val * 2048 + l.val, by omega⟩ : Fin 16384) (⟨4096 + (2 * 512 + c.val), by omega⟩ : Fin 17920)) := by
  have h : val_main_v53 (F := Ideal) X (ix3 b l c) = X (ix2 (⟨b.val * 2048 + l.val, by omega⟩ : Fin 16384) (⟨4096 + (1024 + c.val), by omega⟩ : Fin 17920)) := by
    pointwise [val_main_v53, val_main_v2, val_main_v1, val_main_v0]
  exact h.trans (congrArg (fun z => X (ix2 (⟨b.val * 2048 + l.val, by omega⟩ : Fin 16384) z)) (Fin.ext (by show 4096 + (1024 + c.val) = 4096 + (2 * 512 + c.val); omega)))

/-- Group 2's tokens, as the mean is taken off them. -/
theorem sub2 (b : Fin 8) (l : Fin 2048) (c : Fin 512) : val_main_v59 (F := Ideal) X (ix3 b l c)
    = X (ix2 (⟨b.val * 2048 + l.val, by omega⟩ : Fin 16384) (⟨4096 + (2 * 512 + c.val), by omega⟩ : Fin 17920)) :=
  (show val_main_v59 (F := Ideal) X (ix3 b l c) = val_main_v53 (F := Ideal) X (ix3 b l c) from rfl).trans (tok2 X b l c)

/-- Group 2's counts. -/
theorem cnt2 (b : Fin 8) (l : Fin 2048) (c : Fin 512) : val_main_v57 (F := Ideal) (ix3 b l c) = cntN l.val 8 := by
  pointwise [val_main_v6, val_main_v43, val_main_v44, val_main_v45, val_main_v46, val_main_v47, val_main_v48, val_main_v49, val_main_v50, val_main_v51, val_main_v52, val_main_v56, val_main_v57, val_main_c_8, val_main_c_9, val_main_c_10, val_main_c_11]
  rw [ref8 l]; rfl

/-- Group 2's window sums. -/
theorem win2 (b : Fin 8) (l : Fin 2048) (c : Fin 512) : val_main_v55 (F := Ideal) X (ix3 b l c)
    = ∑ d ∈ Finset.range 8, (if h : d ≤ l.val then X (ix2 (⟨b.val * 2048 + (l.val - d), by omega⟩ : Fin 16384) (⟨4096 + (2 * 512 + c.val), by omega⟩ : Fin 17920)) else 0) := by
  unfold val_main_v55
  have h0 : val_main_v54 (F := Ideal) (Shape.Idx.first h_S_) = (0 : EReal) := by
    rw [val_main_v54_apply, val_main_cst_12_apply]; exact zero_bits
  refine (win_sum 8 7 rfl (val_main_v53 (F := Ideal) X) _ h0 reduceWindows_S8x2048x512_S8x2048x512_w1s1p0_0_w8s1p7_0_w1s1p0_0 b l c).trans (Finset.sum_congr rfl fun d _ => ?_)
  by_cases h : d ≤ l.val
  · rw [dif_pos h, dif_pos h]; exact tok2 X b _ c
  · rw [dif_neg h, dif_neg h]

/-- Group 2 of the stacked groups. -/
theorem grp2 (b : Fin 8) (l : Fin 2048) (c : Fin 512) : val_main_v83 (F := Ideal) X (ix4 b l 2 c) = yAt X 2 b l c := by
  have h : val_main_v83 (F := Ideal) X (ix4 b l 2 c) = val_main_v60 (F := Ideal) X (ix3 b l c) := by
    pointwise [val_main_v83, val_main_v79, val_main_v80, val_main_v81, val_main_v82]
  refine h.trans ?_
  show Ideal.div (val_main_v55 (F := Ideal) X (ix3 b l c)) (val_main_v57 (F := Ideal) (ix3 b l c)) - val_main_v59 (F := Ideal) X (ix3 b l c) = _
  rw [win2, cnt2, sub2]
  rfl

/-- The window's count is the smaller of the position after and the window. -/
theorem ref16 : ∀ l : Fin 2048, IntOp.subi (IntOp.addi (BitVec.ofNat 32 l.val) 1#32) (IntOp.maxsi (IntOp.subi (IntOp.addi (BitVec.ofNat 32 l.val) 1#32) 16#32) 0#32)
    = BitVec.ofNat 32 (min (l.val + 1) 16) := by decide +kernel

/-- Group 3's tokens. -/
theorem tok3 (b : Fin 8) (l : Fin 2048) (c : Fin 512) : val_main_v71 (F := Ideal) X (ix3 b l c)
    = X (ix2 (⟨b.val * 2048 + l.val, by omega⟩ : Fin 16384) (⟨4096 + (3 * 512 + c.val), by omega⟩ : Fin 17920)) := by
  have h : val_main_v71 (F := Ideal) X (ix3 b l c) = X (ix2 (⟨b.val * 2048 + l.val, by omega⟩ : Fin 16384) (⟨4096 + (1536 + c.val), by omega⟩ : Fin 17920)) := by
    pointwise [val_main_v71, val_main_v2, val_main_v1, val_main_v0]
  exact h.trans (congrArg (fun z => X (ix2 (⟨b.val * 2048 + l.val, by omega⟩ : Fin 16384) z)) (Fin.ext (by show 4096 + (1536 + c.val) = 4096 + (3 * 512 + c.val); omega)))

/-- Group 3's tokens, as the mean is taken off them. -/
theorem sub3 (b : Fin 8) (l : Fin 2048) (c : Fin 512) : val_main_v77 (F := Ideal) X (ix3 b l c)
    = X (ix2 (⟨b.val * 2048 + l.val, by omega⟩ : Fin 16384) (⟨4096 + (3 * 512 + c.val), by omega⟩ : Fin 17920)) :=
  (show val_main_v77 (F := Ideal) X (ix3 b l c) = val_main_v71 (F := Ideal) X (ix3 b l c) from rfl).trans (tok3 X b l c)

/-- Group 3's counts. -/
theorem cnt3 (b : Fin 8) (l : Fin 2048) (c : Fin 512) : val_main_v75 (F := Ideal) (ix3 b l c) = cntN l.val 16 := by
  pointwise [val_main_v6, val_main_v61, val_main_v62, val_main_v63, val_main_v64, val_main_v65, val_main_v66, val_main_v67, val_main_v68, val_main_v69, val_main_v70, val_main_v74, val_main_v75, val_main_c_13, val_main_c_14, val_main_c_15, val_main_c_16]
  rw [ref16 l]; rfl

/-- Group 3's window sums. -/
theorem win3 (b : Fin 8) (l : Fin 2048) (c : Fin 512) : val_main_v73 (F := Ideal) X (ix3 b l c)
    = ∑ d ∈ Finset.range 16, (if h : d ≤ l.val then X (ix2 (⟨b.val * 2048 + (l.val - d), by omega⟩ : Fin 16384) (⟨4096 + (3 * 512 + c.val), by omega⟩ : Fin 17920)) else 0) := by
  unfold val_main_v73
  have h0 : val_main_v72 (F := Ideal) (Shape.Idx.first h_S_) = (0 : EReal) := by
    rw [val_main_v72_apply, val_main_cst_17_apply]; exact zero_bits
  refine (win_sum 16 15 rfl (val_main_v71 (F := Ideal) X) _ h0 reduceWindows_S8x2048x512_S8x2048x512_w1s1p0_0_w16s1p15_0_w1s1p0_0 b l c).trans (Finset.sum_congr rfl fun d _ => ?_)
  by_cases h : d ≤ l.val
  · rw [dif_pos h, dif_pos h]; exact tok3 X b _ c
  · rw [dif_neg h, dif_neg h]

/-- Group 3 of the stacked groups. -/
theorem grp3 (b : Fin 8) (l : Fin 2048) (c : Fin 512) : val_main_v83 (F := Ideal) X (ix4 b l 3 c) = yAt X 3 b l c := by
  have h : val_main_v83 (F := Ideal) X (ix4 b l 3 c) = val_main_v78 (F := Ideal) X (ix3 b l c) := by
    pointwise [val_main_v83, val_main_v79, val_main_v80, val_main_v81, val_main_v82]
  refine h.trans ?_
  show Ideal.div (val_main_v73 (F := Ideal) X (ix3 b l c)) (val_main_v75 (F := Ideal) (ix3 b l c)) - val_main_v77 (F := Ideal) X (ix3 b l c) = _
  rw [win3, cnt3, sub3]
  rfl

/-- The stacked groups. -/
theorem v83 (b : Fin 8) (l : Fin 2048) (g : Fin 4) (c : Fin 512) : val_main_v83 (F := Ideal) X (ix4 b l g c) = yAt X g b l c := by
  match g with
  | 0 => exact grp0 X b l c
  | 1 => exact grp1 X b l c
  | 2 => exact grp2 X b l c
  | 3 => exact grp3 X b l c

/-- The reference's result at an index. -/
theorem v93 (i : Fin 16384) (k : Fin 2048) : val_main_v93 (F := Ideal) X W s (ix2 i k)
    = (∑ c : Fin 512, yAt X (⟨k.val / 512, by omega⟩ : Fin 4) (⟨i.val / 2048, by omega⟩ : Fin 8) (⟨i.val % 2048, by omega⟩ : Fin 2048) c
        * W (ix3 (⟨k.val / 512, by omega⟩ : Fin 4) c (⟨k.val % 512, by omega⟩ : Fin 512)))
      * s (ix1 k) * (X (ix2 i (⟨6144 + k.val, by omega⟩ : Fin 17920)) * Ideal.logistic (X (ix2 i (⟨6144 + k.val, by omega⟩ : Fin 17920)))) := by
  pointwise [val_main_v84, val_main_v85, val_main_v86, val_main_v87, val_main_v88, val_main_v89, val_main_v90, val_main_call0_v0, val_main_call0_v1, val_main_call0_v2, val_main_call0_v3, val_main_call0_v4, val_main_call0_v5, val_main_call0_cst, val_main_call0_cst_0, val_main_v91, val_main_v92, val_main_v93, val_main_v5, val_main_v4, val_main_v3]
  simp only [v83, Ideal.logistic]
  exact congrArg₂ (· * ·) (congrArg (· * s (ix1 k)) (Finset.sum_congr rfl fun c _ => mul_comm (G := EReal) _ _)) rfl

end Cert.PoolRefIdeal.Point

end
-- ==== Proof.PoolValue.lean ====
/- The value of the pooling mixer: the array the tiled kernel leaves is, index by index, the reference's
   `(((window mean) - x) W_group) scale * silu(gate)` over the extended reals. -/
module

public import proofs.«01_k».proof.Proof.PoolRefPoint

@[expose] public section

set_option maxRecDepth 16384

noncomputable section

open Idealize.ShloMosaic Idealize.ShloMosaic.TcCoe Idealize.SL.Sem
open Idealize.ShloMosaic.Pipeline (Dat)

namespace Cert.PoolIdeal.RefValue

open Cert.PoolIdeal Cert.PoolIdeal.Gen
open Cert.PoolRefIdeal.Read (val_main_v93)

variable (m : (ℓ : Loc nD τ sig) → Buf (Elt Ideal) ℓ)

/-- The reference's result, of the kernel's own argument arrays. -/
abbrev REF (c : Dev nD) : FVec Ideal S16384x2048 .bf16 :=
  val_main_v93 (F := Ideal) (m ((c : Thread nD τ).loc main_arg0)) (m ((c : Thread nD τ).loc main_arg1)) (m ((c : Thread nD τ).loc main_arg2))

/-- Where each window stands at a grid point. -/
theorem idx : ∀ t : Fin cfg0.N, win0_0.index t = ![t.val, 2] ∧ win0_1.index t = ![32 * t.val - 1, 2] ∧ win0_2.index t = ![t.val, 3]
    ∧ win0_3.index t = ![0, 0, 0] ∧ win0_4.index t = ![0, 0] ∧ win0_5.index t = ![t.val, 0] ∧ t.val < 32 ∧ ((grid0.coords t) 0).val = t.val :=
  (by decide +kernel : ∀ t : Fin grid0.N, _)

/-- Each input block read at an index is its argument array read where the block stands. -/
theorem rd0 (c : Dev nD) (t : Fin cfg0.N) (a : Fin 512) (b : Fin 2048) (i : Fin 16384) (h : i.val = t.val * 512 + a.val) :
    X0_0 m c t (ix2 a b) = m ((c : Thread nD τ).loc main_arg0) (ix2 i (⟨4096 + b.val, by omega⟩ : Fin 17920)) := by
  unfold X0_0 Pipeline.Window.fill
  rw [dif_pos (moved0_0 t _)]
  blk_ext! [iblk, V, idx t]
theorem rd1 (c : Dev nD) (t : Fin cfg0.N) (a : Fin 16) (b : Fin 2048) (i : Fin 16384) (h : i.val = (32 * t.val - 1) * 16 + a.val) :
    X0_1 m c t (ix2 a b) = m ((c : Thread nD τ).loc main_arg0) (ix2 i (⟨4096 + b.val, by omega⟩ : Fin 17920)) := by
  unfold X0_1 Pipeline.Window.fill
  rw [dif_pos (moved0_1 t _)]
  blk_ext! [iblk, V, idx t]
theorem rd2 (c : Dev nD) (t : Fin cfg0.N) (a : Fin 512) (b : Fin 2048) (i : Fin 16384) (h : i.val = t.val * 512 + a.val) :
    X0_2 m c t (ix2 a b) = m ((c : Thread nD τ).loc main_arg0) (ix2 i (⟨6144 + b.val, by omega⟩ : Fin 17920)) := by
  unfold X0_2 Pipeline.Window.fill
  rw [dif_pos (moved0_2 t _)]
  blk_ext! [iblk, V, idx t]
theorem rd3 (c : Dev nD) (t : Fin cfg0.N) (g : Fin 4) (a b : Fin 512) :
    iblk m c 3 t (ix3 g a b) = m ((c : Thread nD τ).loc main_arg1) (ix3 g a b) := by
  blk_ext! [iblk, V, idx t]
theorem rd4 (c : Dev nD) (t : Fin cfg0.N) (b : Fin 2048) :
    iblk m c 4 t (ix2 0 b) = m ((c : Thread nD τ).loc main_arg2) (ix1 b) := by
  blk_ext! [iblk, V, idx t]

/-- The extended tokens back from a row of the block: the tokens of the row's sequence up to its start, and nothing before. -/
theorem back (c : Dev nD) (t : Fin cfg0.N) (arg1 : Memref sig .tc .vmem S512x2048 .bf16) (harg1 : arg1.IsWhole) (arg2 : Memref sig .tc .vmem S16x2048 .bf16) (harg2 : arg2.IsWhole)
    (a : Fin 512) (k : Fin 2048) (d : ℕ) (hd : d < 16) (i : Fin 16384) (h : i.val = t.val * 512 + a.val) :
    EE (TK c (grid0.coords t) arg1 harg1 arg2 harg2 (X0_0 m c t) (X0_1 m c t)) (32 + a.val - d) k.val
      = if hl : d ≤ i.val % 2048 then m ((c : Thread nD τ).loc main_arg0) (ix2 (⟨i.val / 2048 * 2048 + (i.val % 2048 - d), by omega⟩ : Fin 16384) (⟨4096 + k.val, by omega⟩ : Fin 17920)) else (0 : EReal) := by
  obtain ⟨-, -, -, -, -, -, ht, hc⟩ := idx t
  by_cases ha : d ≤ a.val
  · have hl : d ≤ i.val % 2048 := by omega
    rw [dif_pos hl]
    refine (congrArg (fun r => EE _ r k.val) (show 32 + a.val - d = 32 + (a.val - d) by omega)).trans ?_
    refine (tok_at c (grid0.coords t) arg1 harg1 arg2 harg2 (X0_0 m c t) (X0_1 m c t) (⟨a.val - d, by omega⟩ : Fin 512) k).trans ?_
    exact rd0 m c t _ k _ (by show i.val / 2048 * 2048 + (i.val % 2048 - d) = t.val * 512 + (a.val - d); omega)
  · refine (congrArg (fun r => EE _ r k.val) (show 32 + a.val - d = 16 + (16 + a.val - d) by omega)).trans ?_
    refine (halo_at c (grid0.coords t) arg1 harg1 arg2 harg2 (X0_0 m c t) (X0_1 m c t) (⟨16 + a.val - d, by omega⟩ : Fin 16) k).trans ?_
    rw [hc]
    by_cases h4 : t.val % 4 = 0
    · rw [if_pos h4, dif_neg (by omega)]
    · rw [if_neg h4, dif_pos (by omega)]
      exact rd1 m c t _ k _ (by show i.val / 2048 * 2048 + (i.val % 2048 - d) = (32 * t.val - 1) * 16 + (16 + a.val - d); omega)

/-- What the body stores at an index of its block is the reference at the place of that index. -/
theorem point (c : Dev nD) (t : Fin cfg0.N) (arg1 : Memref sig .tc .vmem S512x2048 .bf16) (harg1 : arg1.IsWhole) (arg2 : Memref sig .tc .vmem S16x2048 .bf16) (harg2 : arg2.IsWhole)
    (a : Fin 512) (k : Fin 2048) (i : Fin 16384) (h : i.val = t.val * 512 + a.val) :
    blkAt (((grid0.coords t) 0).val % 4 * 512) (fun k r => EE (TK c (grid0.coords t) arg1 harg1 arg2 harg2 (X0_0 m c t) (X0_1 m c t)) r k) (X0_2 m c t) (iblk m c 3 t) (iblk m c 4 t)
      (⟨k.val / 512, by omega⟩ : Fin 4) a (⟨k.val % 512, by omega⟩ : Fin 512) = REF m c (ix2 i k) := by
  obtain ⟨-, -, -, -, -, -, ht, hc⟩ := idx t
  refine Eq.trans ?_ (Cert.PoolRefIdeal.Point.v93 _ _ _ i k).symm
  have ek : (⟨k.val / 512 * 512 + k.val % 512, by omega⟩ : Fin 2048) = k := Fin.ext (by show k.val / 512 * 512 + k.val % 512 = k.val; omega)
  have hg := rd2 m c t a k i h
  have hw : 2 ^ (k.val / 512 + 1) ≤ 16 := (Nat.pow_le_pow_right (by omega) (show k.val / 512 + 1 ≤ 4 by omega) : 2 ^ (k.val / 512 + 1) ≤ 2 ^ 4)
  unfold blkAt
  refine congrArg₂ (· * ·) (congrArg₂ (· * ·) (Finset.sum_congr rfl fun n _ => congrArg₂ (· * ·) (congrArg₂ (· - ·) (congrArg₂ Ideal.div ?_ ?_) ?_) ?_) ?_) ?_
  · refine (lev_sum _ _ _).trans (Finset.sum_congr rfl fun d hd => ?_)
    exact back m c t arg1 harg1 arg2 harg2 a (⟨k.val / 512 * 512 + n.val, by omega⟩ : Fin 2048) d (lt_of_lt_of_le (Finset.mem_range.mp hd) hw) i h
  · exact congrArg (fun l => cntN l _) (show ((grid0.coords t) 0).val % 4 * 512 + a.val = i.val % 2048 by rw [hc]; omega)
  · have e := back m c t arg1 harg1 arg2 harg2 a (⟨k.val / 512 * 512 + n.val, by omega⟩ : Fin 2048) 0 (by omega) i h
    rw [dif_pos (Nat.zero_le _)] at e
    exact e
  · exact rd3 m c t _ n _
  · exact (congrArg (fun z => iblk m c 4 t (ix2 0 z)) ek).trans (rd4 m c t k)
  · have e := (congrArg (fun z => X0_2 m c t (ix2 a z)) ek).trans hg
    exact congrArg₂ (· * ·) e (congrArg Ideal.logistic e)

/-- The same over an index of the block and an index of the array. -/
theorem whole (c : Dev nD) (t : Fin cfg0.N) (y : S512x2048.Idx) (j : S16384x2048.Idx)
    (h0 : (j 0).val = t.val * 512 + (y 0).val) (h1 : (j 1).val = (y 1).val) : outsAt0 m c t y = REF m c j := by
  have ej : j = ix2 (j 0) (y 1) := by funext a; match a with | 0 => rfl | 1 => exact Fin.ext h1
  rw [ej]
  refine Eq.trans ?_ (point m c t (ms0_0 t) (hs0_0 t) (ms0_1 t) (hs0_1 t) (y 0) (y 1) (j 0) h0)
  unfold outsAt0 out0_A_5
  rw [View.read_writes_eq_canon _ _ _ (fun y => cover0_A_5 _ _ _ _ _ _ _ _ _ _ _ _ _ _ _ _ _ _ _ _ _ _ _ y)]
  exact pool_block c _ _ _ _ _ _ _ _ _ _ _ _ _ _ _ _ _ _ _ _ _ _ y

/-- The result array after the run. -/
theorem final (c : Dev nD) : (dats m 0 c).arrAt 5 (cfgs 0).N = REF m c := by
  refine (dats m 0 c).arrAt_eq_of_covers 5 _ (by decide +kernel) fun t _ y => ?_
  blk_simp
  rw [after0_5]
  refine whole m c t y _ ?_ ?_ <;> blk_simp [idx t]

end Cert.PoolIdeal.RefValue

end
-- ==== Proof.lean ====
module

public import proofs.«01_k».proof.Defs
public import proofs.«01_k».proof.Proof.Gen.Sgu
public import proofs.«01_k».proof.Proof.Gen.SguIdeal
public import proofs.«01_k».proof.Proof.Gen.SguIdeal.Skeleton
public import proofs.«01_k».proof.Proof.Gen.SguIdeal.Launch
public import proofs.«01_k».proof.Proof.Gen.SguIdeal.Points
public import proofs.«01_k».proof.Proof.Gen.SguIdeal.Frame
public import proofs.«01_k».proof.Proof.Gen.SguRefIdeal
public import proofs.«01_k».proof.Proof.Gen.SguRefIdeal.Run
public import proofs.«01_k».proof.Proof.Gen.SguRefIdeal.Read
public import proofs.«01_k».proof.Proof.SguFrame
public import proofs.«01_k».proof.Proof.SguValue
public import proofs.«01_k».proof.Proof.MergeValue
public import proofs.«01_k».proof.Proof.Gen.Merge.Frame
public import proofs.«01_k».proof.Proof.Gen.MergeIdeal.Frame
public import proofs.«01_k».proof.Proof.Gen.MergeRefIdeal.Run
public import proofs.«01_k».proof.Proof.Gen.MergeRefIdeal.Read
public import proofs.«01_k».proof.Proof.ProjValue
public import proofs.«01_k».proof.Proof.Gen.Proj.Frame
public import proofs.«01_k».proof.Proof.Gen.ProjIdeal.Frame
public import proofs.«01_k».proof.Proof.Gen.ProjRefIdeal.Run
public import proofs.«01_k».proof.Proof.Gen.ProjRefIdeal.Read
public import proofs.«01_k».proof.Proof.OutValue
public import proofs.«01_k».proof.Proof.Gen.Out.Frame
public import proofs.«01_k».proof.Proof.Gen.OutIdeal.Frame
public import proofs.«01_k».proof.Proof.Gen.OutRefIdeal.Run
public import proofs.«01_k».proof.Proof.Gen.OutRefIdeal.Read
public import proofs.«01_k».proof.Proof.Gen.Pool.Frame
public import proofs.«01_k».proof.Proof.Gen.PoolIdeal.Frame
public import proofs.«01_k».proof.Proof.PoolValue
public import proofs.«01_k».proof.Proof.Gen.PoolRefIdeal.Run
public import proofs.«01_k».proof.Proof.Gen.PoolRefIdeal.Read
public import Idealize.ShloMosaic.Adequacy
public import Idealize.ShloMosaic.Init

@[expose] public section

set_option maxRecDepth 16384

noncomputable section

/-! The certificate: for each call its frame, the frame of its reading over the reals, the frame of its reference,
and the equality of the results of the last two. -/

namespace Cert.Proof

open Idealize.ShloMosaic Idealize.SL.Sem

/-- The Sgu call's kernel and its reading over the reals are one text: the frame of the one is the frame of the other at the same
    float values. -/
theorem same_Sgu : Cert.quiescent_Sgu = ∀ (m : (ℓ : Loc Cert.SguIdeal.nD Cert.SguIdeal.τ Cert.SguIdeal.sig) → Buf (Elt Bits) ℓ) (ρ : Dev Cert.SguIdeal.nD → PrngReg), Cert.Pre_Sgu m →
    θ_run (Cert.SguIdeal.defs (F := Bits)) (onTc (τ := Cert.SguIdeal.τ) (Cert.SguIdeal.main (F := Bits))) ⟨m, fun _ => 0, ρ⟩ (fun r => (∀ c : Dev Cert.SguIdeal.nD,
      r.2.mem ((c.tc : Thread Cert.SguIdeal.nD Cert.SguIdeal.τ).loc Cert.SguIdeal.main_arg0) = m ((c.tc : Thread Cert.SguIdeal.nD Cert.SguIdeal.τ).loc Cert.SguIdeal.main_arg0)
      ∧ r.2.mem ((c.tc : Thread Cert.SguIdeal.nD Cert.SguIdeal.τ).loc Cert.SguIdeal.main_arg1) = m ((c.tc : Thread Cert.SguIdeal.nD Cert.SguIdeal.τ).loc Cert.SguIdeal.main_arg1)
      ∧ r.2.mem ((c.tc : Thread Cert.SguIdeal.nD Cert.SguIdeal.τ).loc Cert.SguIdeal.main_arg2) = m ((c.tc : Thread Cert.SguIdeal.nD Cert.SguIdeal.τ).loc Cert.SguIdeal.main_arg2)
      ∧ r.2.mem ((c.tc : Thread Cert.SguIdeal.nD Cert.SguIdeal.τ).loc Cert.SguIdeal.main_arg3) = m ((c.tc : Thread Cert.SguIdeal.nD Cert.SguIdeal.τ).loc Cert.SguIdeal.main_arg3)
      ∧ r.2.mem ((c.tc : Thread Cert.SguIdeal.nD Cert.SguIdeal.τ).loc Cert.SguIdeal.main_arg4) = m ((c.tc : Thread Cert.SguIdeal.nD Cert.SguIdeal.τ).loc Cert.SguIdeal.main_arg4)
      ∧ r.2.mem ((c.tc : Thread Cert.SguIdeal.nD Cert.SguIdeal.τ).loc Cert.SguIdeal.main_arg5) = m ((c.tc : Thread Cert.SguIdeal.nD Cert.SguIdeal.τ).loc Cert.SguIdeal.main_arg5))
      ∧ r.2.sem = fun _ => 0) := by
  sl_kernel_rfl

/-- Every run of the Sgu call's kernel ends, keeps its arguments and leaves every semaphore at zero. -/
theorem frame_Sgu : Cert.quiescent_Sgu :=
  same_Sgu.mpr fun m ρ _ => Cert.SguIdeal.Own.frame (F := Bits) m ρ

/-- Every run of the Sgu call's reference ends, keeps its arguments and leaves every semaphore at zero. -/
theorem frame_SguRef : Cert.quiescent_SguRefIdeal := by
  intro m g _
  exact (θ_run Cert.SguRefIdeal.defs _ _).mono
    (fun r h => ⟨fun c => (h c).2, Idealize.ShloMosaic.sem_eq_zero_of_no_sems (by decide) r.2⟩)
    (Cert.SguRefIdeal.Value.run (F := Ideal) m g)

set_option maxHeartbeats 1600000 in
/-- The Sgu call's result is its reference's result. -/
theorem algebraic_Sgu : Cert.algebraic_SguIdeal_SguRefIdeal := by
  intro m g m' g' _ hagree
  refine ⟨fun c => Cert.SguIdeal.RefValue.REF m c, Cert.SguIdeal.RefValue.run_value m g, ?_⟩
  refine (θ_run Cert.SguRefIdeal.defs _ _).mono (fun r h c => ⟨(h c).1.trans ?_, (h c).2⟩) (Cert.SguRefIdeal.Value.run (F := Ideal) m' g')
  obtain ⟨e0, e1, e2, e3, e4, e5⟩ := hagree c
  unfold Cert.SguRefIdeal.Value.res_main_v75
  rw [e0, e1, e2, e3, e4, e5]
  rfl

/-- Every run of the Merge call's reference ends, keeps its arguments and leaves every semaphore at zero. -/
theorem frame_MergeRef : Cert.quiescent_MergeRefIdeal := by
  intro m g _
  exact (θ_run Cert.MergeRefIdeal.defs _ _).mono
    (fun r h => ⟨fun c => (h c).2, Idealize.ShloMosaic.sem_eq_zero_of_no_sems (by decide) r.2⟩)
    (Cert.MergeRefIdeal.Value.run (F := Ideal) m g)

set_option maxHeartbeats 1600000 in
/-- The Merge call's result is its reference's result. -/
theorem algebraic_Merge : Cert.algebraic_MergeIdeal_MergeRefIdeal := by
  pair_intro
  · run_from Cert.MergeIdeal.Gen.run_main m g
  · run_from Cert.MergeRefIdeal.Value.run m' g'
    exact (Cert.MergeIdeal.RefValue.final m c).symm

/-- Every run of the Proj call's reference ends, keeps its arguments and leaves every semaphore at zero. -/
theorem frame_ProjRef : Cert.quiescent_ProjRefIdeal := by
  intro m g _
  exact (θ_run Cert.ProjRefIdeal.defs _ _).mono
    (fun r h => ⟨fun c => (h c).2, Idealize.ShloMosaic.sem_eq_zero_of_no_sems (by decide) r.2⟩)
    (Cert.ProjRefIdeal.Value.run (F := Ideal) m g)

set_option maxHeartbeats 1600000 in
/-- The Proj call's result is its reference's result. -/
theorem algebraic_Proj : Cert.algebraic_ProjIdeal_ProjRefIdeal := by
  pair_intro
  · run_from Cert.ProjIdeal.Gen.run_main m g
    simp only [Cert.ProjIdeal.Gen.hostOps0, Cert.ProjIdeal.Gen.hostOps0_1, Cert.ProjIdeal.Gen.hostOps0_2,
      List.flatten_cons, List.flatten_nil, List.append_nil, List.cons_append, List.nil_append]
    after_results
  · run_from Cert.ProjRefIdeal.Value.run m' g'
    unfold Cert.ProjRefIdeal.Value.res_main_v22
    rw [(hagree c).1, (hagree c).2]
    exact (Cert.ProjIdeal.RefValue.final m c).symm

/-- Every run of the Out call's reference ends, keeps its arguments and leaves every semaphore at zero. -/
theorem frame_OutRef : Cert.quiescent_OutRefIdeal := by
  intro m g _
  exact (θ_run Cert.OutRefIdeal.defs _ _).mono
    (fun r h => ⟨fun c => (h c).2, Idealize.ShloMosaic.sem_eq_zero_of_no_sems (by decide) r.2⟩)
    (Cert.OutRefIdeal.Value.run (F := Ideal) m g)

set_option maxHeartbeats 1600000 in
/-- The Out call's result is its reference's result. -/
theorem algebraic_Out : Cert.algebraic_OutIdeal_OutRefIdeal := by
  pair_intro
  · run_from Cert.OutIdeal.Gen.run_main m g
  · run_from Cert.OutRefIdeal.Value.run m' g'
    exact (Cert.OutIdeal.RefValue.final m c).symm

/-- Every run of the Pool call's reference ends, keeps its arguments and leaves every semaphore at zero. -/
theorem frame_PoolRef : Cert.quiescent_PoolRefIdeal := by
  intro m g _
  exact (θ_run Cert.PoolRefIdeal.defs _ _).mono
    (fun r h => ⟨fun c => (h c).2, Idealize.ShloMosaic.sem_eq_zero_of_no_sems (by decide) r.2⟩)
    (Cert.PoolRefIdeal.Value.run (F := Ideal) m g)

set_option maxHeartbeats 1600000 in
/-- The Pool call's result is its reference's result. -/
theorem algebraic_Pool : Cert.algebraic_PoolIdeal_PoolRefIdeal := by
  pair_intro
  · run_from Cert.PoolIdeal.Gen.run_main m g
  · run_from Cert.PoolRefIdeal.Value.run m' g'
    rw [Cert.PoolRefIdeal.Read.val_main_v93_eq, (hagree c).1, (hagree c).2.1, (hagree c).2.2]
    exact (Cert.PoolIdeal.RefValue.final m c).symm

theorem claim : Cert.Claim := ⟨Cert.Sgu.Gen.facts, Cert.SguIdeal.Gen.facts, Cert.SguRefIdeal.Gen.facts, Cert.Merge.Gen.facts, Cert.MergeIdeal.Gen.facts, Cert.MergeRefIdeal.Gen.facts, Cert.Proj.Gen.facts, Cert.ProjIdeal.Gen.facts, Cert.ProjRefIdeal.Gen.facts, Cert.Out.Gen.facts, Cert.OutIdeal.Gen.facts, Cert.OutRefIdeal.Gen.facts, Cert.Pool.Gen.facts, Cert.PoolIdeal.Gen.facts, Cert.PoolRefIdeal.Gen.facts,
  frame_Sgu, fun m ρ _ => Cert.SguIdeal.Own.frame m ρ, frame_SguRef, fun m ρ _ => Cert.Merge.Gen.frame m ρ, fun m ρ _ => Cert.MergeIdeal.Gen.frame m ρ, frame_MergeRef, fun m ρ _ => Cert.Proj.Gen.frame m ρ, fun m ρ _ => Cert.ProjIdeal.Gen.frame m ρ, frame_ProjRef, fun m ρ _ => Cert.Out.Gen.frame m ρ, fun m ρ _ => Cert.OutIdeal.Gen.frame m ρ, frame_OutRef, fun m ρ _ => Cert.Pool.Gen.frame m ρ, fun m ρ _ => Cert.PoolIdeal.Gen.frame m ρ, frame_PoolRef, trivial, algebraic_Sgu, trivial, algebraic_Merge, trivial, algebraic_Proj, trivial, algebraic_Out, trivial, algebraic_Pool⟩

end Cert.Proof

end
